-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S288x512 : Shape := ⟨2, ![288, 512]⟩
abbrev S16 : Shape := ⟨1, ![16]⟩
abbrev S14 : Shape := ⟨1, ![14]⟩
abbrev S_ : Shape := ⟨0, ![]⟩
abbrev S1 : Shape := ⟨1, ![1]⟩
abbrev S16x512 : Shape := ⟨2, ![16, 512]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S288x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v17 : BitVec 1 := Scalar.cmpi .eq v5 c0_i32_12
  let v18 : BitVec 32 := Scalar.extui v17
  let c0_i32_13 : BitVec 32 := 0#32
  let v19 : BitVec 1 := Scalar.cmpi .ne v18 c0_i32_13
  v19

def k0_dev3 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v23 : BitVec 32 := Scalar.muli v6 c2_i32_18
  let v24 : BitVec 32 := Scalar.addi c0_i32_19 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v25 : BitVec 32 := Scalar.muli v5 c1_i32_20
  let v26 : BitVec 32 := Scalar.addi v24 v25
  v26.toNat
def k0_dev4 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v33 : BitVec 32 := Scalar.muli v6 c2_i32_27
  let v34 : BitVec 32 := Scalar.addi c0_i32_28 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v35 : BitVec 32 := Scalar.muli v5 c1_i32_29
  let v36 : BitVec 32 := Scalar.addi v34 v35
  v36.toNat
def k0_dev5 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v43 : BitVec 32 := Scalar.muli v6 c2_i32_35
  let v44 : BitVec 32 := Scalar.addi c0_i32_36 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v45 : BitVec 32 := Scalar.muli v5 c1_i32_37
  let v46 : BitVec 32 := Scalar.addi v44 v45
  v46.toNat
def k0_dev6 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v53 : BitVec 32 := Scalar.muli v6 c2_i32_42
  let v54 : BitVec 32 := Scalar.addi c0_i32_43 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v55 : BitVec 32 := Scalar.muli v5 c1_i32_44
  let v56 : BitVec 32 := Scalar.addi v54 v55
  v56.toNat
def k0_dev7 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v63 : BitVec 32 := Scalar.muli v6 c2_i32_49
  let v64 : BitVec 32 := Scalar.addi c0_i32_50 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v65 : BitVec 32 := Scalar.muli v5 c1_i32_51
  let v66 : BitVec 32 := Scalar.addi v64 v65
  v66.toNat
def k0_dev8 (d0 : Dev nD) : Nat :=
  let c0_i32_57 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_56 : BitVec 32 := 2#32
  let v73 : BitVec 32 := Scalar.muli v6 c2_i32_56
  let v74 : BitVec 32 := Scalar.addi c0_i32_57 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v75 : BitVec 32 := Scalar.muli v5 c1_i32_58
  let v76 : BitVec 32 := Scalar.addi v74 v75
  v76.toNat
def k0_dev9 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v83 : BitVec 32 := Scalar.muli v6 c2_i32_63
  let v84 : BitVec 32 := Scalar.addi c0_i32_64 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v85 : BitVec 32 := Scalar.muli v5 c1_i32_65
  let v86 : BitVec 32 := Scalar.addi v84 v85
  v86.toNat
def k0_dev10 (d0 : Dev nD) : Nat :=
  let c0_i32_71 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_70 : BitVec 32 := 2#32
  let v93 : BitVec 32 := Scalar.muli v6 c2_i32_70
  let v94 : BitVec 32 := Scalar.addi c0_i32_71 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v95 : BitVec 32 := Scalar.muli v5 c1_i32_72
  let v96 : BitVec 32 := Scalar.addi v94 v95
  v96.toNat
def k0_dev11 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v103 : BitVec 32 := Scalar.muli v6 c2_i32_77
  let v104 : BitVec 32 := Scalar.addi c0_i32_78 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v105 : BitVec 32 := Scalar.muli v5 c1_i32_79
  let v106 : BitVec 32 := Scalar.addi v104 v105
  v106.toNat
def k0_dev12 (d0 : Dev nD) : Nat :=
  let c0_i32_85 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_84 : BitVec 32 := 2#32
  let v113 : BitVec 32 := Scalar.muli v6 c2_i32_84
  let v114 : BitVec 32 := Scalar.addi c0_i32_85 v113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v115 : BitVec 32 := Scalar.muli v5 c1_i32_86
  let v116 : BitVec 32 := Scalar.addi v114 v115
  v116.toNat
def k0_dev13 (d0 : Dev nD) : Nat :=
  let c0_i32_92 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_91 : BitVec 32 := 2#32
  let v123 : BitVec 32 := Scalar.muli v6 c2_i32_91
  let v124 : BitVec 32 := Scalar.addi c0_i32_92 v123
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v125 : BitVec 32 := Scalar.muli v5 c1_i32_93
  let v126 : BitVec 32 := Scalar.addi v124 v125
  v126.toNat
def k0_dev14 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v133 : BitVec 32 := Scalar.muli v6 c2_i32_98
  let v134 : BitVec 32 := Scalar.addi c0_i32_99 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v135 : BitVec 32 := Scalar.muli v5 c1_i32_100
  let v136 : BitVec 32 := Scalar.addi v134 v135
  v136.toNat
def k0_dev15 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v143 : BitVec 32 := Scalar.muli v6 c2_i32_105
  let v144 : BitVec 32 := Scalar.addi c0_i32_106 v143
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v145 : BitVec 32 := Scalar.muli v5 c1_i32_107
  let v146 : BitVec 32 := Scalar.addi v144 v145
  v146.toNat
def k0_dev16 (d0 : Dev nD) : Nat :=
  let c0_i32_113 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_112 : BitVec 32 := 2#32
  let v153 : BitVec 32 := Scalar.muli v6 c2_i32_112
  let v154 : BitVec 32 := Scalar.addi c0_i32_113 v153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v155 : BitVec 32 := Scalar.muli v5 c1_i32_114
  let v156 : BitVec 32 := Scalar.addi v154 v155
  v156.toNat
def k0_dev17 (d0 : Dev nD) : Nat :=
  let c0_i32_120 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_119 : BitVec 32 := 2#32
  let v163 : BitVec 32 := Scalar.muli v6 c2_i32_119
  let v164 : BitVec 32 := Scalar.addi c0_i32_120 v163
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v165 : BitVec 32 := Scalar.muli v5 c1_i32_121
  let v166 : BitVec 32 := Scalar.addi v164 v165
  v166.toNat
def k0_dev18 (d0 : Dev nD) : Nat :=
  let c0_i32_127 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_126 : BitVec 32 := 2#32
  let v173 : BitVec 32 := Scalar.muli v6 c2_i32_126
  let v174 : BitVec 32 := Scalar.addi c0_i32_127 v173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v175 : BitVec 32 := Scalar.muli v5 c1_i32_128
  let v176 : BitVec 32 := Scalar.addi v174 v175
  v176.toNat
def k0_dev19 (d0 : Dev nD) : Nat :=
  let c0_i32_148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_147 : BitVec 32 := 2#32
  let v196 : BitVec 32 := Scalar.muli v2 c2_i32_147
  let v197 : BitVec 32 := Scalar.addi c0_i32_148 v196
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_149 : BitVec 32 := 1#32
  let v198 : BitVec 32 := Scalar.muli v7 c1_i32_149
  let v199 : BitVec 32 := Scalar.addi v197 v198
  v199.toNat
def k0_dev20 (d0 : Dev nD) : Nat :=
  let c0_i32_171 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_170 : BitVec 32 := 2#32
  let v219 : BitVec 32 := Scalar.muli v2 c2_i32_170
  let v220 : BitVec 32 := Scalar.addi c0_i32_171 v219
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_172 : BitVec 32 := 1#32
  let v221 : BitVec 32 := Scalar.muli v7 c1_i32_172
  let v222 : BitVec 32 := Scalar.addi v220 v221
  v222.toNat
def k0_dev21 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_193 : BitVec 32 := 2#32
  let v242 : BitVec 32 := Scalar.muli v2 c2_i32_193
  let v243 : BitVec 32 := Scalar.addi c0_i32_194 v242
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_195 : BitVec 32 := 1#32
  let v244 : BitVec 32 := Scalar.muli v7 c1_i32_195
  let v245 : BitVec 32 := Scalar.addi v243 v244
  v245.toNat
def k0_dev22 (d0 : Dev nD) : Nat :=
  let c0_i32_217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_216 : BitVec 32 := 2#32
  let v265 : BitVec 32 := Scalar.muli v2 c2_i32_216
  let v266 : BitVec 32 := Scalar.addi c0_i32_217 v265
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_218 : BitVec 32 := 1#32
  let v267 : BitVec 32 := Scalar.muli v7 c1_i32_218
  let v268 : BitVec 32 := Scalar.addi v266 v267
  v268.toNat
def k0_dev23 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_239 : BitVec 32 := 2#32
  let v288 : BitVec 32 := Scalar.muli v2 c2_i32_239
  let v289 : BitVec 32 := Scalar.addi c0_i32_240 v288
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_241 : BitVec 32 := 1#32
  let v290 : BitVec 32 := Scalar.muli v7 c1_i32_241
  let v291 : BitVec 32 := Scalar.addi v289 v290
  v291.toNat
def k0_dev24 (d0 : Dev nD) : Nat :=
  let c0_i32_263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_262 : BitVec 32 := 2#32
  let v311 : BitVec 32 := Scalar.muli v2 c2_i32_262
  let v312 : BitVec 32 := Scalar.addi c0_i32_263 v311
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_264 : BitVec 32 := 1#32
  let v313 : BitVec 32 := Scalar.muli v7 c1_i32_264
  let v314 : BitVec 32 := Scalar.addi v312 v313
  v314.toNat
def k0_dev25 (d0 : Dev nD) : Nat :=
  let c0_i32_286 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_285 : BitVec 32 := 2#32
  let v334 : BitVec 32 := Scalar.muli v2 c2_i32_285
  let v335 : BitVec 32 := Scalar.addi c0_i32_286 v334
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_287 : BitVec 32 := 1#32
  let v336 : BitVec 32 := Scalar.muli v7 c1_i32_287
  let v337 : BitVec 32 := Scalar.addi v335 v336
  v337.toNat
def k0_dev26 (d0 : Dev nD) : Nat :=
  let c0_i32_309 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_308 : BitVec 32 := 2#32
  let v357 : BitVec 32 := Scalar.muli v2 c2_i32_308
  let v358 : BitVec 32 := Scalar.addi c0_i32_309 v357
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_310 : BitVec 32 := 1#32
  let v359 : BitVec 32 := Scalar.muli v7 c1_i32_310
  let v360 : BitVec 32 := Scalar.addi v358 v359
  v360.toNat
def k0_dev27 (d0 : Dev nD) : Nat :=
  let c0_i32_332 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_331 : BitVec 32 := 2#32
  let v380 : BitVec 32 := Scalar.muli v2 c2_i32_331
  let v381 : BitVec 32 := Scalar.addi c0_i32_332 v380
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_333 : BitVec 32 := 1#32
  let v382 : BitVec 32 := Scalar.muli v7 c1_i32_333
  let v383 : BitVec 32 := Scalar.addi v381 v382
  v383.toNat
def k0_dev28 (d0 : Dev nD) : Nat :=
  let c0_i32_355 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_354 : BitVec 32 := 2#32
  let v403 : BitVec 32 := Scalar.muli v2 c2_i32_354
  let v404 : BitVec 32 := Scalar.addi c0_i32_355 v403
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_356 : BitVec 32 := 1#32
  let v405 : BitVec 32 := Scalar.muli v7 c1_i32_356
  let v406 : BitVec 32 := Scalar.addi v404 v405
  v406.toNat
def k0_dev29 (d0 : Dev nD) : Nat :=
  let c0_i32_378 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_377 : BitVec 32 := 2#32
  let v426 : BitVec 32 := Scalar.muli v2 c2_i32_377
  let v427 : BitVec 32 := Scalar.addi c0_i32_378 v426
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_379 : BitVec 32 := 1#32
  let v428 : BitVec 32 := Scalar.muli v7 c1_i32_379
  let v429 : BitVec 32 := Scalar.addi v427 v428
  v429.toNat
def k0_dev30 (d0 : Dev nD) : Nat :=
  let c0_i32_401 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_400 : BitVec 32 := 2#32
  let v449 : BitVec 32 := Scalar.muli v2 c2_i32_400
  let v450 : BitVec 32 := Scalar.addi c0_i32_401 v449
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_402 : BitVec 32 := 1#32
  let v451 : BitVec 32 := Scalar.muli v7 c1_i32_402
  let v452 : BitVec 32 := Scalar.addi v450 v451
  v452.toNat
def k0_dev31 (d0 : Dev nD) : Nat :=
  let c0_i32_424 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_423 : BitVec 32 := 2#32
  let v472 : BitVec 32 := Scalar.muli v2 c2_i32_423
  let v473 : BitVec 32 := Scalar.addi c0_i32_424 v472
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_425 : BitVec 32 := 1#32
  let v474 : BitVec 32 := Scalar.muli v7 c1_i32_425
  let v475 : BitVec 32 := Scalar.addi v473 v474
  v475.toNat
def k0_dev32 (d0 : Dev nD) : Nat :=
  let c0_i32_447 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_446 : BitVec 32 := 2#32
  let v495 : BitVec 32 := Scalar.muli v2 c2_i32_446
  let v496 : BitVec 32 := Scalar.addi c0_i32_447 v495
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_448 : BitVec 32 := 1#32
  let v497 : BitVec 32 := Scalar.muli v7 c1_i32_448
  let v498 : BitVec 32 := Scalar.addi v496 v497
  v498.toNat
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v20 : BitVec 1 := Scalar.cmpi .eq v5 c1_i32_14
  let v21 : BitVec 32 := Scalar.extui v20
  let c0_i32_15 : BitVec 32 := 0#32
  let v22 : BitVec 1 := Scalar.cmpi .ne v21 c0_i32_15
  v22

def k0_dev33 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v23 : BitVec 32 := Scalar.muli v6 c2_i32_18
  let v24 : BitVec 32 := Scalar.addi c0_i32_19 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v25 : BitVec 32 := Scalar.muli v5 c1_i32_20
  let v26 : BitVec 32 := Scalar.addi v24 v25
  v26.toNat
def k0_dev34 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v33 : BitVec 32 := Scalar.muli v6 c2_i32_26
  let v34 : BitVec 32 := Scalar.addi c0_i32_27 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v35 : BitVec 32 := Scalar.muli v5 c1_i32_28
  let v36 : BitVec 32 := Scalar.addi v34 v35
  v36.toNat
def k0_dev35 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v43 : BitVec 32 := Scalar.muli v6 c2_i32_33
  let v44 : BitVec 32 := Scalar.addi c0_i32_34 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v45 : BitVec 32 := Scalar.muli v5 c1_i32_35
  let v46 : BitVec 32 := Scalar.addi v44 v45
  v46.toNat
def k0_dev36 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v53 : BitVec 32 := Scalar.muli v6 c2_i32_39
  let v54 : BitVec 32 := Scalar.addi c0_i32_40 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v55 : BitVec 32 := Scalar.muli v5 c1_i32_41
  let v56 : BitVec 32 := Scalar.addi v54 v55
  v56.toNat
def k0_dev37 (d0 : Dev nD) : Nat :=
  let c0_i32_46 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_45 : BitVec 32 := 2#32
  let v63 : BitVec 32 := Scalar.muli v6 c2_i32_45
  let v64 : BitVec 32 := Scalar.addi c0_i32_46 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v65 : BitVec 32 := Scalar.muli v5 c1_i32_47
  let v66 : BitVec 32 := Scalar.addi v64 v65
  v66.toNat
def k0_dev38 (d0 : Dev nD) : Nat :=
  let c0_i32_52 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_51 : BitVec 32 := 2#32
  let v73 : BitVec 32 := Scalar.muli v6 c2_i32_51
  let v74 : BitVec 32 := Scalar.addi c0_i32_52 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v75 : BitVec 32 := Scalar.muli v5 c1_i32_53
  let v76 : BitVec 32 := Scalar.addi v74 v75
  v76.toNat
def k0_dev39 (d0 : Dev nD) : Nat :=
  let c0_i32_58 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_57 : BitVec 32 := 2#32
  let v83 : BitVec 32 := Scalar.muli v6 c2_i32_57
  let v84 : BitVec 32 := Scalar.addi c0_i32_58 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_59 : BitVec 32 := 1#32
  let v85 : BitVec 32 := Scalar.muli v5 c1_i32_59
  let v86 : BitVec 32 := Scalar.addi v84 v85
  v86.toNat
def k0_dev40 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v93 : BitVec 32 := Scalar.muli v6 c2_i32_63
  let v94 : BitVec 32 := Scalar.addi c0_i32_64 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v95 : BitVec 32 := Scalar.muli v5 c1_i32_65
  let v96 : BitVec 32 := Scalar.addi v94 v95
  v96.toNat
def k0_dev41 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v103 : BitVec 32 := Scalar.muli v6 c2_i32_69
  let v104 : BitVec 32 := Scalar.addi c0_i32_70 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v105 : BitVec 32 := Scalar.muli v5 c1_i32_71
  let v106 : BitVec 32 := Scalar.addi v104 v105
  v106.toNat
def k0_dev42 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v113 : BitVec 32 := Scalar.muli v6 c2_i32_75
  let v114 : BitVec 32 := Scalar.addi c0_i32_76 v113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v115 : BitVec 32 := Scalar.muli v5 c1_i32_77
  let v116 : BitVec 32 := Scalar.addi v114 v115
  v116.toNat
def k0_dev43 (d0 : Dev nD) : Nat :=
  let c0_i32_82 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_81 : BitVec 32 := 2#32
  let v123 : BitVec 32 := Scalar.muli v6 c2_i32_81
  let v124 : BitVec 32 := Scalar.addi c0_i32_82 v123
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_83 : BitVec 32 := 1#32
  let v125 : BitVec 32 := Scalar.muli v5 c1_i32_83
  let v126 : BitVec 32 := Scalar.addi v124 v125
  v126.toNat
def k0_dev44 (d0 : Dev nD) : Nat :=
  let c0_i32_88 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_87 : BitVec 32 := 2#32
  let v133 : BitVec 32 := Scalar.muli v6 c2_i32_87
  let v134 : BitVec 32 := Scalar.addi c0_i32_88 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v135 : BitVec 32 := Scalar.muli v5 c1_i32_89
  let v136 : BitVec 32 := Scalar.addi v134 v135
  v136.toNat
def k0_dev45 (d0 : Dev nD) : Nat :=
  let c0_i32_94 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_93 : BitVec 32 := 2#32
  let v143 : BitVec 32 := Scalar.muli v6 c2_i32_93
  let v144 : BitVec 32 := Scalar.addi c0_i32_94 v143
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_95 : BitVec 32 := 1#32
  let v145 : BitVec 32 := Scalar.muli v5 c1_i32_95
  let v146 : BitVec 32 := Scalar.addi v144 v145
  v146.toNat
def k0_dev46 (d0 : Dev nD) : Nat :=
  let c0_i32_100 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_99 : BitVec 32 := 2#32
  let v153 : BitVec 32 := Scalar.muli v6 c2_i32_99
  let v154 : BitVec 32 := Scalar.addi c0_i32_100 v153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v155 : BitVec 32 := Scalar.muli v5 c1_i32_101
  let v156 : BitVec 32 := Scalar.addi v154 v155
  v156.toNat
def k0_dev47 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v163 : BitVec 32 := Scalar.muli v6 c2_i32_105
  let v164 : BitVec 32 := Scalar.addi c0_i32_106 v163
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v165 : BitVec 32 := Scalar.muli v5 c1_i32_107
  let v166 : BitVec 32 := Scalar.addi v164 v165
  v166.toNat
def k0_dev48 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v173 : BitVec 32 := Scalar.muli v6 c2_i32_111
  let v174 : BitVec 32 := Scalar.addi c0_i32_112 v173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v175 : BitVec 32 := Scalar.muli v5 c1_i32_113
  let v176 : BitVec 32 := Scalar.addi v174 v175
  v176.toNat
def k0_dev49 (d0 : Dev nD) : Nat :=
  let c0_i32_134 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_133 : BitVec 32 := 2#32
  let v196 : BitVec 32 := Scalar.muli v2 c2_i32_133
  let v197 : BitVec 32 := Scalar.addi c0_i32_134 v196
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_135 : BitVec 32 := 1#32
  let v198 : BitVec 32 := Scalar.muli v7 c1_i32_135
  let v199 : BitVec 32 := Scalar.addi v197 v198
  v199.toNat
def k0_dev50 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_155 : BitVec 32 := 2#32
  let v219 : BitVec 32 := Scalar.muli v2 c2_i32_155
  let v220 : BitVec 32 := Scalar.addi c0_i32_156 v219
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_157 : BitVec 32 := 1#32
  let v221 : BitVec 32 := Scalar.muli v7 c1_i32_157
  let v222 : BitVec 32 := Scalar.addi v220 v221
  v222.toNat
def k0_dev51 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v242 : BitVec 32 := Scalar.muli v2 c2_i32_177
  let v243 : BitVec 32 := Scalar.addi c0_i32_178 v242
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_179 : BitVec 32 := 1#32
  let v244 : BitVec 32 := Scalar.muli v7 c1_i32_179
  let v245 : BitVec 32 := Scalar.addi v243 v244
  v245.toNat
def k0_dev52 (d0 : Dev nD) : Nat :=
  let c0_i32_200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_199 : BitVec 32 := 2#32
  let v265 : BitVec 32 := Scalar.muli v2 c2_i32_199
  let v266 : BitVec 32 := Scalar.addi c0_i32_200 v265
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_201 : BitVec 32 := 1#32
  let v267 : BitVec 32 := Scalar.muli v7 c1_i32_201
  let v268 : BitVec 32 := Scalar.addi v266 v267
  v268.toNat
def k0_dev53 (d0 : Dev nD) : Nat :=
  let c0_i32_222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_221 : BitVec 32 := 2#32
  let v288 : BitVec 32 := Scalar.muli v2 c2_i32_221
  let v289 : BitVec 32 := Scalar.addi c0_i32_222 v288
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_223 : BitVec 32 := 1#32
  let v290 : BitVec 32 := Scalar.muli v7 c1_i32_223
  let v291 : BitVec 32 := Scalar.addi v289 v290
  v291.toNat
def k0_dev54 (d0 : Dev nD) : Nat :=
  let c0_i32_244 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_243 : BitVec 32 := 2#32
  let v311 : BitVec 32 := Scalar.muli v2 c2_i32_243
  let v312 : BitVec 32 := Scalar.addi c0_i32_244 v311
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_245 : BitVec 32 := 1#32
  let v313 : BitVec 32 := Scalar.muli v7 c1_i32_245
  let v314 : BitVec 32 := Scalar.addi v312 v313
  v314.toNat
def k0_dev55 (d0 : Dev nD) : Nat :=
  let c0_i32_266 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_265 : BitVec 32 := 2#32
  let v334 : BitVec 32 := Scalar.muli v2 c2_i32_265
  let v335 : BitVec 32 := Scalar.addi c0_i32_266 v334
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_267 : BitVec 32 := 1#32
  let v336 : BitVec 32 := Scalar.muli v7 c1_i32_267
  let v337 : BitVec 32 := Scalar.addi v335 v336
  v337.toNat
def k0_dev56 (d0 : Dev nD) : Nat :=
  let c0_i32_288 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_287 : BitVec 32 := 2#32
  let v357 : BitVec 32 := Scalar.muli v2 c2_i32_287
  let v358 : BitVec 32 := Scalar.addi c0_i32_288 v357
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_289 : BitVec 32 := 1#32
  let v359 : BitVec 32 := Scalar.muli v7 c1_i32_289
  let v360 : BitVec 32 := Scalar.addi v358 v359
  v360.toNat
def k0_dev57 (d0 : Dev nD) : Nat :=
  let c0_i32_310 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_309 : BitVec 32 := 2#32
  let v380 : BitVec 32 := Scalar.muli v2 c2_i32_309
  let v381 : BitVec 32 := Scalar.addi c0_i32_310 v380
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_311 : BitVec 32 := 1#32
  let v382 : BitVec 32 := Scalar.muli v7 c1_i32_311
  let v383 : BitVec 32 := Scalar.addi v381 v382
  v383.toNat
def k0_dev58 (d0 : Dev nD) : Nat :=
  let c0_i32_332 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_331 : BitVec 32 := 2#32
  let v403 : BitVec 32 := Scalar.muli v2 c2_i32_331
  let v404 : BitVec 32 := Scalar.addi c0_i32_332 v403
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_333 : BitVec 32 := 1#32
  let v405 : BitVec 32 := Scalar.muli v7 c1_i32_333
  let v406 : BitVec 32 := Scalar.addi v404 v405
  v406.toNat
def k0_dev59 (d0 : Dev nD) : Nat :=
  let c0_i32_354 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_353 : BitVec 32 := 2#32
  let v426 : BitVec 32 := Scalar.muli v2 c2_i32_353
  let v427 : BitVec 32 := Scalar.addi c0_i32_354 v426
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_355 : BitVec 32 := 1#32
  let v428 : BitVec 32 := Scalar.muli v7 c1_i32_355
  let v429 : BitVec 32 := Scalar.addi v427 v428
  v429.toNat
def k0_dev60 (d0 : Dev nD) : Nat :=
  let c0_i32_376 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_375 : BitVec 32 := 2#32
  let v449 : BitVec 32 := Scalar.muli v2 c2_i32_375
  let v450 : BitVec 32 := Scalar.addi c0_i32_376 v449
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_377 : BitVec 32 := 1#32
  let v451 : BitVec 32 := Scalar.muli v7 c1_i32_377
  let v452 : BitVec 32 := Scalar.addi v450 v451
  v452.toNat
def k0_dev61 (d0 : Dev nD) : Nat :=
  let c0_i32_398 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_397 : BitVec 32 := 2#32
  let v472 : BitVec 32 := Scalar.muli v2 c2_i32_397
  let v473 : BitVec 32 := Scalar.addi c0_i32_398 v472
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_399 : BitVec 32 := 1#32
  let v474 : BitVec 32 := Scalar.muli v7 c1_i32_399
  let v475 : BitVec 32 := Scalar.addi v473 v474
  v475.toNat
def k0_dev62 (d0 : Dev nD) : Nat :=
  let c0_i32_420 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_419 : BitVec 32 := 2#32
  let v495 : BitVec 32 := Scalar.muli v2 c2_i32_419
  let v496 : BitVec 32 := Scalar.addi c0_i32_420 v495
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_421 : BitVec 32 := 1#32
  let v497 : BitVec 32 := Scalar.muli v7 c1_i32_421
  let v498 : BitVec 32 := Scalar.addi v496 v497
  v498.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/-
The kernel's body as loops. The printed body is one straight line of 1693 statements for each of the two places of a
device on the mesh's second axis; here the same line is written once, as five loops over the chunks of a run whose first
row and whose extension are parameters, and the printed body is proved equal to it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Idealize.ShloMosaic Idealize.ShloMosaic.TcCoe
open Idealize.SL Idealize.SL.Sem
open Cert.KernelIdeal Cert.KernelIdeal.Gen

variable {F : FTy → Type} [FloatOps F]

/-- `R` rows of 512 columns. -/
abbrev Rows (R : ℕ) : Shape := ⟨2, ![R, 512]⟩

/-- `R` rows from row `o` on lie in a buffer of `n` rows. -/
theorem rows_inb {n R o : ℕ} (h : o + R ≤ n) : ∀ a, (![o, 0] : Fin 2 → ℕ) a + (Rows R).size a ≤ (Rows n).size a := by
  intro a; fin_cases a
  · exact h
  · exact Nat.le_refl 512

/-- The rectangle of `R` whole rows from row `o` on, of a buffer of `n` rows. -/
abbrev band (n R o : ℕ) (h : o + R ≤ n) : Rect (Rows n) := Rect.unit (s := Rows n) ![o, 0] (Rows R).size (rows_inb h)

theorem cell_inb {n : ℕ} (k : Fin n) : ∀ a, (![k.val] : Fin 1 → ℕ) a + S1.size a ≤ (⟨1, ![n]⟩ : Shape).size a := by
  intro a; fin_cases a; exact k.isLt

/-- The semaphores a run uses: of the chunks sent to and received from the device across the first axis, and of those
    sent to and received from the device across the second. -/
abbrev sendX (k : Fin 16) : DmaSem sig :=
  ((cc0_scratch1.slice (Rect.unit (s := S16) ![k.val] S1.size (cell_inb k))).squeeze S_ squeezes_S1_S_).sem
@[inherit_doc sendX] abbrev recvX (k : Fin 16) : DmaSem sig :=
  ((cc0_scratch2.slice (Rect.unit (s := S16) ![k.val] S1.size (cell_inb k))).squeeze S_ squeezes_S1_S_).sem
@[inherit_doc sendX] abbrev sendY (k : Fin 14) : DmaSem sig :=
  ((cc0_scratch3.slice (Rect.unit (s := S14) ![k.val] S1.size (cell_inb k))).squeeze S_ squeezes_S1_S_).sem
@[inherit_doc sendX] abbrev recvY (k : Fin 14) : DmaSem sig :=
  ((cc0_scratch4.slice (Rect.unit (s := S14) ![k.val] S1.size (cell_inb k))).squeeze S_ squeezes_S1_S_).sem

/-- The sixteen chunks a device sends across the first axis: fourteen of 16 rows, which go on across the second, and two
    of 32 rows, which do not (`false` the one after the fourteen, `true` the extension). -/
abbrev Chunk : Type := Fin 14 ⊕ Bool

/-- A chunk's number, -/
@[reducible] def num : Chunk → Fin 16
  | .inl k => ⟨k.val, by omega⟩
  | .inr false => 14
  | .inr true => 15
/-- its rows, -/
@[reducible] def rows : Chunk → ℕ
  | .inl _ => 16
  | .inr _ => 32
/-- where they lie in the landing buffer, -/
@[reducible] def into : Chunk → ℕ
  | .inl k => 16 * k.val
  | .inr false => 224
  | .inr true => 256
/-- and where in the operand, on a device whose place on the second axis is `b`. -/
@[reducible] def base (b : Bool) : ℕ := cond b 256 0
@[inherit_doc base, reducible] def from' (b : Bool) : Chunk → ℕ
  | .inl k => base b + 16 * k.val
  | .inr false => base b + 224
  | .inr true => cond b 224 480

theorem from_le (b : Bool) (k : Chunk) : from' b k + rows k ≤ 512 := by
  rcases k with k | _ | _ <;> cases b <;> simp only [from', base, rows, cond] <;> omega
theorem into_le (k : Chunk) : into k + rows k ≤ 288 := by
  rcases k with k | _ | _ <;> simp only [into, rows] <;> omega
theorem rows_pos (k : Chunk) : 0 < (Rows (rows k)).numel := by
  rcases k with k | k
  · exact (by decide : 0 < (Rows 16).numel)
  · exact (by decide : 0 < (Rows 32).numel)

/-- A chunk's rows in the operand and the result, and in the landing buffer. -/
abbrev there (b : Bool) (k : Chunk) : Rect (Rows 512) := band 512 (rows k) (from' b k) (from_le b k)
@[inherit_doc there] abbrev land (k : Chunk) : Rect (Rows 288) := band 288 (rows k) (into k) (into_le k)

/-- The operand's, the result's and the landing buffer's memory. -/
abbrev xM : Memref sig .tc .vmem (Rows 512) .f32 := Memref.whole cc0_stg0_0
@[inherit_doc xM] abbrev oM : Memref sig .tc .vmem (Rows 512) .f32 := Memref.whole cc0_stg1_0
@[inherit_doc xM] abbrev rM : Memref sig .tc .vmem (Rows 288) .f32 := Memref.whole cc0_scratch0
/-- A chunk of each of the three. -/
abbrev xAt (b : Bool) (k : Chunk) : Memref sig .tc .vmem (Rows (rows k)) .f32 := xM.slice (there b k) (fun _ => rfl)
@[inherit_doc xAt] abbrev oAt (b : Bool) (k : Chunk) : Memref sig .tc .vmem (Rows (rows k)) .f32 := oM.slice (there b k) (fun _ => rfl)
@[inherit_doc xAt] abbrev rAt (k : Chunk) : Memref sig .tc .vmem (Rows (rows k)) .f32 := rM.slice (land k) (fun _ => rfl)

/-- A program of the kernel's thread. -/
abbrev Step (F : FTy → Type) [FloatOps F] : Type 1 := Prog (TpuEff nD τ sig (Elt F) Λ₀ .tc) PUnit

/-- Chunk `k` of the operand goes to the landing buffer of device `d`. -/
def copyX (d : Dev nD) (b : Bool) (k : Chunk) : Step F :=
  Prog.lift (.enqueueDma (xAt b k) (.remote (Dev.tc d) (rAt k) (.dma (sendX (num k)))) (.dma (recvX (num k)))
    (View.wordExact_bits rfl) (View.wordExact_bits rfl) ⟨⟨rfl, Or.inl rfl⟩, trivial⟩)

/-- The sum of two bands. -/
def bandSum {R : ℕ} (a b : Vec F (Rows R) .f32) : FVec F (Rows R) .f32 := addf (shapeCast (Rows R) a rfl) b

/-- Chunk `k` has landed: -/
def landX (b : Bool) (k : Chunk) : Step F :=
  Prog.lift (.waitDma2 (recvX (num k)) (xAt b k) (rAt k) (View.wordExact_bits rfl) (View.wordExact_bits rfl))

/-- its sum with the operand's chunk is stored in the result's. -/
def addX (b : Bool) (k : Chunk) : Step F := do
  let u : Vec F (Rows (rows k)) .f32 ← Prog.lift (.load xM (there b k).toLoadRect (View.loadsAt_vmem (rows_pos k)))
  let v : Vec F (Rows (rows k)) .f32 ← Prog.lift (.load rM (land k).toLoadRect (View.loadsAt_vmem (rows_pos k)))
  let _ : Vec F (Rows (rows k)) .f32 ← Prog.lift (.load oM (there b k).toLoadRect (View.loadsAt_vmem (rows_pos k)))
  Prog.lift (.store oM (there b k) (bandSum u v) Finset.univ (View.stores_vmem_bits_univ (rows_pos k) rfl) (.inl rfl))

/-- Chunk `k` of the result goes to the same rows of the result of device `d`. -/
def copyY (d : Dev nD) (b : Bool) (k : Fin 14) : Step F :=
  Prog.lift (.enqueueDma (oAt b (.inl k)) (.remote (Dev.tc d) (oAt b (.inl k)) (.dma (sendY k))) (.dma (recvY k))
    (View.wordExact_bits rfl) (View.wordExact_bits rfl) ⟨⟨rfl, Or.inl rfl⟩, trivial⟩)

/-- Wait for chunk `k` from across the second axis. -/
def awaitY (b : Bool) (k : Fin 14) : Step F :=
  Prog.lift (.waitDma2 (recvY k) (oAt b (.inl k)) (oAt b (.inl k)) (View.wordExact_bits rfl) (View.wordExact_bits rfl))

/-- Wait until chunk `k` has been read for the device across the first axis, or across the second. -/
def sentX (b : Bool) (k : Chunk) : Step F :=
  Prog.lift (.waitDma2 (sendX (num k)) (rAt k) (xAt b k) (View.wordExact_bits rfl) (View.wordExact_bits rfl))
@[inherit_doc sentX] def sentY (b : Bool) (k : Fin 14) : Step F :=
  Prog.lift (.waitDma2 (sendY k) (oAt b (.inl k)) (oAt b (.inl k)) (View.wordExact_bits rfl) (View.wordExact_bits rfl))

/-- `f 0`, then `f 1`, …, then `q`. -/
def each : (n : ℕ) → (Fin n → Step F) → Step F → Step F
  | 0, _, q => q
  | n + 1, f, q => f 0 >>= fun _ => each n (fun k => f k.succ) q

/-- The sixteen chunks in order. -/
def eachX (f : Chunk → Step F) (q : Step F) : Step F :=
  each 14 (fun k => f (.inl k)) (f (.inr false) >>= fun _ => f (.inr true) >>= fun _ => q)

/-- The device across the first axis of the mesh from `d`, and the one across the second, as the kernel computes them. -/
abbrev acrossX (d : Dev nD) : Dev nD := ⟨k0_dev1 d, k0_dev1_lt d⟩
@[inherit_doc acrossX] abbrev acrossY (d : Dev nD) : Dev nD := ⟨k0_dev2 d, k0_dev2_lt d⟩

/-- What follows a chunk's landing: the sum, and for the first fourteen the copy across the second axis. -/
def takeX (d : Dev nD) (b : Bool) : Chunk → Step F
  | .inl k => landX b (.inl k) >>= fun _ => addX b (.inl k) >>= fun _ => copyY (acrossY d) b k
  | .inr k => landX b (.inr k) >>= fun _ => addX b (.inr k) >>= fun _ => pure ⟨⟩

/-- What a device whose place on the second axis is `b` does after the barrier: its sixteen chunks go across the first
    axis; each that lands is summed, and the first fourteen go on across the second; then every copy is waited for. -/
def run (d : Dev nD) (b : Bool) : Step F :=
  eachX (copyX (acrossX d) b) <|
  eachX (takeX d b) <|
  each 14 (awaitY b) <|
  eachX (sentX b) <|
  each 14 (sentY b) <|
  pure ⟨⟩

/-- The barrier's semaphore. -/
abbrev barS : Sem sig := (SemArray.scalar (sig.barrier 0 rfl) : Sems sig S_).sem

/-- The whole body: the barrier with the two devices across the two axes, then the run of the device's place on the
    second axis. -/
def program : Step F := do
  let d : Dev nD ← Prog.lift .deviceId
  semSignalWord (acrossX d) barS 1#32
  semSignalWord (acrossY d) barS 1#32
  semWaitWord barS 2#32
  if _h : k0_cond1 d = 1#1 then run d false else pure ⟨⟩
  if _h : k0_cond2 d = 1#1 then run d true else pure ⟨⟩
  pure ⟨⟩

set_option maxRecDepth 65536 in
/-- The printed body is `program`. -/
theorem cc0_body_eq_program :
    cc0_body (F := F) xM (Memref.isWhole_whole _) oM (Memref.isWhole_whole _) rM (Memref.isWhole_whole _)
      cc0_scratch1 cc0_scratch2 cc0_scratch3 cc0_scratch4 = program := by
  chain_rfl

end Cert.Exchange
-- ==== Proof.Bands.lean ====
/-
The rows of the three buffers as disjoint bands: the landing buffer is its sixteen chunks, and a device's 512 rows are the
sixteen chunks it sums itself and the fourteen it receives from across the second axis.
-/
module

public import proofs.«01_k».proof.Proof.Program

@[expose] public section

noncomputable section

namespace Cert.Exchange

open Idealize.ShloMosaic Idealize.ShloMosaic.TcCoe
open Idealize.SL Idealize.SL.Sem
open Cert.KernelIdeal Cert.KernelIdeal.Gen

/-- An index lies in a band when its row does. -/
theorem mem_band {n R o : ℕ} {h : o + R ≤ n} {i : (Rows n).Idx} :
    i ∈ (band n R o h).set ↔ o ≤ (i 0).val ∧ (i 0).val < o + R := by
  rw [Rect.mem_set_unit]
  refine ⟨fun H => H 0, fun H a => ?_⟩
  fin_cases a
  · exact H
  · exact ⟨Nat.zero_le _, (Nat.zero_add 512).symm ▸ (i 1).isLt⟩

/-- The row of an index of a band, in the buffer. -/
theorem band_row {n R o : ℕ} {h : o + R ≤ n} (j : (band n R o h).shape.Idx) :
    ((band n R o h).emb j 0).val = o + (j 0).val := by
  rw [Rect.emb_apply]; show o + 1 * (j 0).val = _; omega

/-- Bands that share no row are disjoint. -/
theorem band_disjoint {n R o R' o' : ℕ} {h : o + R ≤ n} {h' : o' + R' ≤ n} (hd : o + R ≤ o' ∨ o' + R' ≤ o) :
    Disjoint (band n R o h).set (band n R' o' h').set :=
  Finset.disjoint_left.mpr fun i hi hi' => by rw [mem_band] at hi hi'; omega

/-- The parts of a device's 512 rows: the chunks it sums, and those that come from across the second axis. -/
abbrev Part : Type := Chunk ⊕ Fin 14

/-- The rows of a part, on a device whose place on the second axis is `b`. -/
@[reducible] def part (b : Bool) : Part → Rect (Rows 512)
  | .inl k => there b k
  | .inr k => there (!b) (.inl k)

theorem part_stride (b : Bool) (t : Part) (a : Fin 2) : (part b t).stride a = 1 := by rcases t with t | t <;> rfl

theorem land_disjoint (k k' : Chunk) (h : k ≠ k') : Disjoint (land k).set (land k').set := by
  refine band_disjoint ?_
  rcases k with k | _ | _ <;> rcases k' with k' | _ | _ <;> simp only [into, rows] <;>
    first
    | omega
    | exact absurd rfl h
    | (have : k.val ≠ k'.val := fun e => h (congrArg Sum.inl (Fin.ext e)); omega)

theorem part_disjoint (b : Bool) (t t' : Part) (h : t ≠ t') : Disjoint (part b t).set (part b t').set := by
  rcases t with (k | _ | _) | k <;> rcases t' with (k' | _ | _) | k' <;> refine band_disjoint (h := from_le _ _) (h' := from_le _ _) ?_ <;> cases b <;>
    simp only [from', rows, base, cond, Bool.not_true, Bool.not_false] <;>
    first
    | omega
    | exact absurd rfl h
    | (have : k.val ≠ k'.val := fun e => h (congrArg (Sum.inl ∘ Sum.inl) (Fin.ext e)); omega)
    | (have : k.val ≠ k'.val := fun e => h (congrArg Sum.inr (Fin.ext e)); omega)

theorem land_cover : (Finset.univ : Finset Chunk).biUnion (fun k => (land k).set) = Finset.univ := by
  refine Finset.eq_univ_iff_forall.mpr fun i => Finset.mem_biUnion.mpr ?_
  have hi : (i 0).val < 288 := (i 0).isLt
  rcases Nat.lt_or_ge (i 0).val 224 with h | h
  · exact ⟨.inl ⟨(i 0).val / 16, by omega⟩, Finset.mem_univ _, mem_band.mpr (by simp only [into, rows]; omega)⟩
  rcases Nat.lt_or_ge (i 0).val 256 with h' | h'
  · exact ⟨.inr false, Finset.mem_univ _, mem_band.mpr (by simp only [into, rows]; omega)⟩
  · exact ⟨.inr true, Finset.mem_univ _, mem_band.mpr (by simp only [into, rows]; omega)⟩

/-- A device's own chunks begin at row `base b`, those from across the second axis at `base (!b)`. -/
theorem part_cover (b : Bool) : (Finset.univ : Finset Part).biUnion (fun t => (part b t).set) = Finset.univ := by
  refine Finset.eq_univ_iff_forall.mpr fun i => Finset.mem_biUnion.mpr ?_
  have hi : (i 0).val < 512 := (i 0).isLt
  have hin (t : Part) (h : i ∈ (part b t).set) : ∃ t ∈ (Finset.univ : Finset Part), i ∈ (part b t).set := ⟨t, Finset.mem_univ _, h⟩
  rcases Nat.lt_or_ge (i 0).val 224 with h | h
  · have hk : (i 0).val / 16 < 14 := by omega
    cases b
    · exact hin (.inl (.inl ⟨_, hk⟩)) ((mem_band (h := from_le _ _)).mpr (by simp only [from', rows, base, cond]; omega))
    · exact hin (.inr ⟨_, hk⟩) ((mem_band (h := from_le _ _)).mpr (by simp only [from', rows, base, cond, Bool.not_true]; omega))
  rcases Nat.lt_or_ge (i 0).val 256 with h' | h'
  · cases b
    · exact hin (.inl (.inr false)) ((mem_band (h := from_le _ _)).mpr (by simp only [from', rows, base, cond]; omega))
    · exact hin (.inl (.inr true)) ((mem_band (h := from_le _ _)).mpr (by simp only [from', rows, base, cond]; omega))
  rcases Nat.lt_or_ge (i 0).val 480 with h'' | h''
  · have hk : ((i 0).val - 256) / 16 < 14 := by omega
    cases b
    · exact hin (.inr ⟨_, hk⟩) ((mem_band (h := from_le _ _)).mpr (by simp only [from', rows, base, cond, Bool.not_false]; omega))
    · exact hin (.inl (.inl ⟨_, hk⟩)) ((mem_band (h := from_le _ _)).mpr (by simp only [from', rows, base, cond]; omega))
  · cases b
    · exact hin (.inl (.inr true)) ((mem_band (h := from_le _ _)).mpr (by simp only [from', rows, base, cond]; omega))
    · exact hin (.inl (.inr false)) ((mem_band (h := from_le _ _)).mpr (by simp only [from', rows, base, cond]; omega))

end Cert.Exchange
-- ==== Proof.Protocol.lean ====
/-
The protocol of the exchange. After the barrier a device may write its neighbours' buffers: across the first axis the
landing buffer, across the second the rows of the result that the neighbour does not sum itself. Each of the sixty copies
has a semaphore on the device that sends and one on the device that receives; each is paid once and waited for once.
-/
module

public import proofs.«01_k».proof.Proof.Bands

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: memory `m`, every semaphore at zero. -/
def s₀ : MemSt nD τ sig (Elt F) := ⟨m, fun _ => 0, ρ⟩

/-! ## The mesh -/

/-- A device's place on the second axis of the mesh. -/
def side (c : Dev nD) : Bool := decide (c.val % 2 = 1)

theorem acrossX_acrossX (c : Dev nD) : acrossX (acrossX c) = c := by revert c; decide
theorem acrossY_acrossY (c : Dev nD) : acrossY (acrossY c) = c := by revert c; decide
theorem side_acrossX (c : Dev nD) : side (acrossX c) = side c := by revert c; decide
theorem side_acrossY (c : Dev nD) : side (acrossY c) = !side c := by revert c; decide

def mirrorX : Dev nD ≃ Dev nD := ⟨acrossX, acrossX, acrossX_acrossX, acrossX_acrossX⟩
def mirrorY : Dev nD ≃ Dev nD := ⟨acrossY, acrossY, acrossY_acrossY, acrossY_acrossY⟩

/-! ## The semaphores -/

/-- The sixty copies' ends: sent and received across the first axis, sent and received across the second. -/
abbrev Duct : Type := (Chunk ⊕ Chunk) ⊕ (Fin 14 ⊕ Fin 14)
@[match_pattern, reducible] def sx (k : Chunk) : Duct := .inl (.inl k)
@[match_pattern, reducible] def rx (k : Chunk) : Duct := .inl (.inr k)
@[match_pattern, reducible] def sy (k : Fin 14) : Duct := .inr (.inl k)
@[match_pattern, reducible] def ry (k : Fin 14) : Duct := .inr (.inr k)

/-- A copy's end's semaphore, -/
@[reducible] def ductSem : Duct → DmaSem sig
  | sx k => sendX (num k)
  | rx k => recvX (num k)
  | sy k => sendY k
  | ry k => recvY k
/-- and that semaphore's number. -/
def ductNum : Duct → ℕ
  | sx k => 2 + (num k).val
  | rx k => 18 + (num k).val
  | sy k => 34 + k.val
  | ry k => 48 + k.val

theorem sendX_val (k : Fin 16) : (sendX k).val = 2 + k.val := by fin_cases k <;> rfl
theorem recvX_val (k : Fin 16) : (recvX k).val = 18 + k.val := by fin_cases k <;> rfl
theorem sendY_val (k : Fin 14) : (sendY k).val = 34 + k.val := by fin_cases k <;> rfl
theorem recvY_val (k : Fin 14) : (recvY k).val = 48 + k.val := by fin_cases k <;> rfl

theorem ductSem_val (a : Duct) : (ductSem a).val = ductNum a := by
  rcases a with (k | k) | k | k
  · exact sendX_val _
  · exact recvX_val _
  · exact sendY_val _
  · exact recvY_val _

theorem num_injective : Function.Injective num := by decide

theorem ductSem_injective : Function.Injective ductSem := by
  intro a a' h
  have hv : ductNum a = ductNum a' := by rw [← ductSem_val, ← ductSem_val, h]
  rcases a with (k | k) | k | k <;> rcases a' with (k' | k') | k' | k' <;> simp only [ductNum] at hv
  · rw [num_injective (Fin.ext (by omega : (num k).val = (num k').val))]
  · omega
  · omega
  · omega
  · omega
  · rw [num_injective (Fin.ext (by omega : (num k).val = (num k').val))]
  · omega
  · omega
  · omega
  · omega
  · rw [Fin.ext (by omega : k.val = k'.val)]
  · omega
  · omega
  · omega
  · omega
  · rw [Fin.ext (by omega : k.val = k'.val)]

open Classical in
/-- The copy's end a semaphore belongs to. -/
def which : SemLoc sig → Option Duct
  | .reg _ => none
  | .dma q => if h : ∃ a, ductSem a = q then some h.choose else none

theorem which_duct (a : Duct) : which (.dma (ductSem a)) = some a := by
  have h : ∃ a', ductSem a' = ductSem a := ⟨a, rfl⟩
  show (if h : ∃ a', ductSem a' = ductSem a then some h.choose else none) = _
  rw [dif_pos h, ductSem_injective h.choose_spec]

/-- The first two transfer semaphores, those of the staging, belong to no copy. -/
theorem which_stage (q : DmaSem sig) (hq : q.val < 2) : which (.dma q) = none := by
  show (if h : ∃ a, ductSem a = q then some h.choose else none) = _
  refine dif_neg fun ⟨a, ha⟩ => ?_
  have hv := ductSem_val a
  rw [ha] at hv
  rcases a with (k | k) | k | k <;> simp only [ductNum] at hv <;> omega

/-- All sixty-one of a device: the barrier's, then the copies'. -/
abbrev Seat : Type := Unit ⊕ Duct
instance seat_decidableEq : DecidableEq Seat := inferInstance
abbrev osem (a : Duct) : SemLoc sig := .dma (ductSem a)
abbrev bar (c : Dev nD) : GSem nD τ sig := ((c : Thread nD τ), .reg barS)
abbrev cell (c : Dev nD) (a : Duct) : GSem nD τ sig := ((c : Thread nD τ), osem a)
@[reducible] def seat (ck : Dev nD × Seat) : GSem nD τ sig := match ck.2 with
  | .inl _ => bar ck.1
  | .inr a => cell ck.1 a

/-- The credit of a copy's end. -/
@[reducible] def units : Duct → ℕ
  | sx k => (rAt k).view.dmaCredit
  | rx k => (rAt k).view.dmaCredit
  | sy k => (oAt false (.inl k)).view.dmaCredit
  | ry k => (oAt false (.inl k)).view.dmaCredit

theorem units_pos (a : Duct) : 0 < units a := by
  rcases a with (k | k) | k | k
  · exact View.dmaCredit_pos _ (rows_pos k)
  · exact View.dmaCredit_pos _ (rows_pos k)
  · exact View.dmaCredit_pos _ (rows_pos (.inl k))
  · exact View.dmaCredit_pos _ (rows_pos (.inl k))

/-! ## Contents -/

/-- Device `c`'s block of the operand. -/
def xstg (c : Dev nD) : Vec F (Rows 512) .f32 :=
  (win0_0.blk (0 : Fin 1)).view.read (Elt F) ((s₀ m ρ).mem ((c : Thread nD τ).loc main_arg0))
/-- The sum of `c`'s block and of the block across the first axis. -/
def sumOf (c : Dev nD) : Vec F (Rows 512) .f32 := addf (xstg m ρ c : FVec F (Rows 512) .f32) (xstg m ρ (acrossX c) : FVec F (Rows 512) .f32)

/-- The part of `X` on a rectangle. -/
abbrev on (X : Vec F (Rows 512) .f32) (r : Rect (Rows 512)) : r.shape.Idx → Elt F .f32 := fun j => X (r.emb j)

/-! ## What each wait hands over -/

/-- What a copy's end hands its device: the sent chunk back; or the received chunk, holding the sender's block on its rows
    or the sender's sum. -/
def pay (c : Dev nD) : Duct → sProp 𝕄
  | sx k => owns (c : Thread nD τ) (xAt (side c) k) fullShare.right (on (xstg m ρ c) (there (side c) k))
  | rx k => owns (c : Thread nD τ) (rAt k) fullShare (on (xstg m ρ (acrossX c)) (there (side c) k))
  | sy k => owns (c : Thread nD τ) (oAt (side c) (.inl k)) fullShare (on (sumOf m ρ c) (there (side c) (.inl k)))
  | ry k => owns (c : Thread nD τ) (oAt (!side c) (.inl k)) fullShare (on (sumOf m ρ (acrossY c)) (there (!side c) (.inl k)))

/-- What the neighbours' signals of the barrier hand a device: the chunks of the first's landing buffer, -/
def payX (c : Dev nD) : sProp 𝕄 :=
  bigSep Finset.univ fun k : Chunk => iprop(∃ X, owns (acrossX c : Thread nD τ) (rAt k) fullShare X)
/-- and the rows of the second's result that the device sums. -/
def payY (c : Dev nD) : sProp 𝕄 :=
  bigSep Finset.univ fun k : Fin 14 => iprop(∃ X, owns (acrossY c : Thread nD τ) (oAt (side c) (.inl k)) fullShare X)

instance pay_storable (c : Dev nD) (a : Duct) : BI.Storable (upEmb : UEmb _ 𝕄) (pay m ρ c a) := by
  rcases a with (k | k) | k | k <;> simp only [pay] <;> infer_instance
instance payX_storable (c : Dev nD) : BI.Storable (upEmb : UEmb _ 𝕄) (payX (F := F) c) := by unfold payX; infer_instance
instance payY_storable (c : Dev nD) : BI.Storable (upEmb : UEmb _ 𝕄) (payY (F := F) c) := by unfold payY; infer_instance

/-- One round. The barrier's semaphore has two duties of one unit, `false` of the device across the first axis and `true` of
    the one across the second; a copy's end has the one duty `false`, of the copy's credit. -/
def Rd : Rounds.Schedule (GSem nD τ sig) Bool 𝕄 where
  duties g r := if r = 0 then (match g.2 with | .reg _ => Finset.univ | .dma _ => {false}) else ∅
  unitless _ := False
  amount g _ _ := match which g.2 with | some a => units a | none => 1
  payload g _ d := match g.2, which g.2 with
    | .reg _, _ => if d then payY g.1.1 else payX g.1.1
    | .dma _, some a => pay m ρ g.1.1 a
    | .dma _, none => iprop(emp)
  amount_pos g _ _ _ := by
    show 0 < (match which g.2 with | some a => units a | none => 1)
    split
    · exact units_pos _
    · exact Nat.one_pos

instance payload_storable (g : GSem nD τ sig) (r : ℕ) (d : Bool) :
    BI.Storable (upEmb : UEmb _ 𝕄) ((Rd (F := F) m ρ).payload g r d) := by
  show BI.Storable upEmb (match g.2, which g.2 with
    | .reg _, _ => if d then payY g.1.1 else payX g.1.1
    | .dma _, some a => pay m ρ g.1.1 a
    | .dma _, none => iprop(emp))
  split
  · split <;> infer_instance
  · infer_instance
  · infer_instance

section Schedule
variable (c : Dev nD) (a : Duct)

theorem duties_bar : (Rd (F := F) m ρ).duties (bar c) 0 = Finset.univ := by dsimp only [Rd]; exact if_pos rfl
theorem duties_cell : (Rd (F := F) m ρ).duties (cell c a) 0 = {false} := by dsimp only [Rd]; exact if_pos rfl
theorem duties_later (g : GSem nD τ sig) : ∀ r, 1 ≤ r → (Rd (F := F) m ρ).duties g r = ∅ :=
  fun r hr => if_neg fun h => by omega

theorem amount_bar (d : Bool) : (Rd (F := F) m ρ).amount (bar c) 0 d = 1 := rfl
theorem amount_cell (d : Bool) : (Rd (F := F) m ρ).amount (cell c a) 0 d = units a := by
  dsimp only [Rd]; rw [which_duct]

theorem expect_bar : (Rd (F := F) m ρ).expect (bar c) 0 = 2 := by
  unfold Schedule.expect Schedule.amountOf
  rw [duties_bar, Fintype.sum_bool, amount_bar, amount_bar]
theorem expect_cell : (Rd (F := F) m ρ).expect (cell c a) 0 = units a := by
  unfold Schedule.expect Schedule.amountOf; rw [duties_cell, Finset.sum_singleton, amount_cell]

theorem payload_bar (d : Bool) : (Rd (F := F) m ρ).payload (bar c) 0 d = if d then payY c else payX c := rfl
theorem payload_cell (d : Bool) : (Rd (F := F) m ρ).payload (cell c a) 0 d = pay m ρ c a := by
  dsimp only [Rd]; rw [which_duct]

/-- The barrier's wait hands over both payloads, -/
theorem rest_bar : bigSep ((Rd (F := F) m ρ).duties (bar c) 0 \ ∅) (fun d => (Rd (F := F) m ρ).payload (bar c) 0 d)
    = iprop(payX c ∗ payY c) := by
  rw [Finset.sdiff_empty, duties_bar, bigSep_univ_eq_bigSepL [false, true] (by decide) (by decide)]
  rfl
/-- a copy's its one. -/
theorem rest_cell : bigSep ((Rd (F := F) m ρ).duties (cell c a) 0 \ ∅) (fun d => (Rd (F := F) m ρ).payload (cell c a) 0 d)
    = pay m ρ c a := by
  rw [Finset.sdiff_empty, duties_cell, bigSep_singleton, payload_cell]

end Schedule

/-! ## What each device owes, and the levels -/

/-- The sum of `f` over the indices numbered `i` and later. -/
def after {T M : Type} [Fintype T] [AddCommMonoid M] (no : T → ℕ) (f : T → M) (i : ℕ) : M := ∑ t with i ≤ no t, f t

/-- The first of them taken out. -/
theorem after_succ {T M : Type} [Fintype T] [DecidableEq T] [AddCommMonoid M] {no : T → ℕ} (hno : Function.Injective no) (f : T → M) (t : T) :
    after no f (no t) = after no f (no t + 1) + f t := by
  unfold after
  have h : (Finset.univ.filter fun s => no t ≤ no s) = insert t (Finset.univ.filter fun s => no t + 1 ≤ no s) := by
    ext s
    simp only [Finset.mem_filter, Finset.mem_univ, true_and, Finset.mem_insert]
    constructor
    · intro h
      rcases Nat.lt_or_ge (no t) (no s) with h' | h'
      · exact .inr h'
      · exact .inl (hno (by omega))
    · rintro (rfl | h)
      · exact Nat.le_refl _
      · omega
  rw [h, Finset.sum_insert (by simp), add_comm]

/-- None is left past the last. -/
theorem after_end {T M : Type} [Fintype T] [AddCommMonoid M] {no : T → ℕ} (f : T → M) {i : ℕ} (h : ∀ t, no t < i) :
    after no f i = 0 := by
  unfold after
  rw [Finset.filter_false_of_mem fun t _ => by have := h t; omega, Finset.sum_empty]

/-- What device `c` still owes across the first axis when `i` chunks have been sent, and across the second. -/
def dueX (c : Dev nD) (i : ℕ) : CellTallies nD τ sig Unit :=
  after (fun k : Chunk => (num k).val) (fun k => tallyAt (cell (acrossX c) (rx k)) () (units (rx k))) i
@[inherit_doc dueX] def dueY (c : Dev nD) (i : ℕ) : CellTallies nD τ sig Unit :=
  after (fun k : Fin 14 => k.val) (fun k => tallyAt (cell (acrossY c) (ry k)) () (units (ry k))) i
/-- At launch, all of it and a unit to each neighbour's barrier. -/
def O₁ (c : Dev nD) : CellTallies nD τ sig Unit := dueX c 0 + dueY c 0
@[inherit_doc O₁] def O₀ (c : Dev nD) : CellTallies nD τ sig Unit :=
  O₁ c + tallyAt (bar (acrossY c)) () 1 + tallyAt (bar (acrossX c)) () 1

theorem dueX_succ (c : Dev nD) (k : Chunk) :
    dueX c (num k).val = dueX c ((num k).val + 1) + tallyAt (cell (acrossX c) (rx k)) () (units (rx k)) :=
  after_succ (no := fun k : Chunk => (num k).val) (fun a b h => num_injective (Fin.ext h)) _ k
theorem dueY_succ (c : Dev nD) (k : Fin 14) :
    dueY c k.val = dueY c (k.val + 1) + tallyAt (cell (acrossY c) (ry k)) () (units (ry k)) :=
  after_succ (no := fun k : Fin 14 => k.val) (fun a b h => Fin.ext h) _ k
theorem dueX_end (c : Dev nD) : dueX c 16 = 0 := after_end _ fun k => (num k).isLt
theorem dueY_end (c : Dev nD) {i : ℕ} (h : 14 ≤ i) : dueY c i = 0 := after_end _ fun k => by have := k.isLt; omega

def L (g : GSem nD τ sig) : Finset Unit := if g.1.2 = .tc then {()} else ∅
/-- The barrier below the receptions across the first axis, those below the receptions across the second; the rest at the
    bottom. -/
def lv (g : GSem nD τ sig) (_ : Unit) : ℕ := match g.2, which g.2 with
  | .reg _, _ => 1
  | .dma _, some (rx _) => 2
  | .dma _, some (ry _) => 3
  | .dma _, _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (bar c) () = 1 := rfl
theorem lv_rx (c : Dev nD) (k : Chunk) : lv (cell c (rx k)) () = 2 := by dsimp only [lv]; rw [which_duct]
theorem lv_ry (c : Dev nD) (k : Fin 14) : lv (cell c (ry k)) () = 3 := by dsimp only [lv]; rw [which_duct]
theorem lv_stage (c : Dev nD) (q : DmaSem sig) (hq : q.val < 2) : lv ((c : Thread nD τ), .dma q) () = 0 := by
  dsimp only [lv]; rw [which_stage q hq]

/-- Everything owed in `O` is owed to TensorCores' semaphores above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} {c : Dev nD} {sm : SemLoc sig} (k : ℕ) (h : n < lv ((c : Thread nD τ), sm) ()) :
    Above n (tallyAt ((c : Thread nD τ), sm) () k) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)
theorem Above.after {n : ℕ} {T : Type} [Fintype T] {no : T → ℕ} {f : T → CellTallies nD τ sig Unit} (i : ℕ) (h : ∀ t, Above n (f t)) :
    Above n (after no f i) := by
  unfold Exchange.after
  exact Finset.sum_induction _ (Above n) (fun _ _ => Above.add) (Above.zero n) fun t _ => h t

theorem above_dueX {n : ℕ} (hn : n < 2) (c : Dev nD) (i : ℕ) : Above n (dueX c i) :=
  Above.after i fun k => Above.tally _ (by rw [lv_rx]; exact hn)
theorem above_dueY {n : ℕ} (hn : n < 3) (c : Dev nD) (i : ℕ) : Above n (dueY c i) :=
  Above.after i fun k => Above.tally _ (by rw [lv_ry]; exact hn)
theorem above_O₁ (c : Dev nD) : Above 1 (O₁ c) := (above_dueX (by decide) c 0).add (above_dueY (by decide) c 0)
theorem above_O₀ (c : Dev nD) : Above 0 (O₀ c) :=
  (((above_dueX (by decide) c 0).add (above_dueY (by decide) c 0)).add (Above.tally _ (by rw [lv_bar]; decide))).add
    (Above.tally _ (by rw [lv_bar]; decide))

/-- A device may wait at a semaphore while it owes only above it. -/
theorem mayWait (c : Dev nD) (sm : SemLoc sig) {n : ℕ} (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## What a device holds of the protocol -/

variable (K : Dev nD × Seat → ℕ)

/-- Every semaphore's invariant, and that its round is reached. -/
def records : sProp 𝕄 :=
  iprop((bigSep Finset.univ fun ck : Dev nD × Seat => cellInv ER (Rd m ρ) (K ck) (seat ck))
    ∗ bigSep Finset.univ fun ck : Dev nD × Seat => reached ER (seat ck) 0)
instance records_persistent : BI.Persistent (records m ρ K) := by unfold records; infer_instance

theorem records_inv (ck : Dev nD × Seat) : records m ρ K ⊢ cellInv ER (Rd m ρ) (K ck) (seat ck) := by

  unfold records
  iintro ⟨H, -⟩
  iapply (show (bigSep Finset.univ fun ck : Dev nD × Seat => (cellInv ER (Rd m ρ) (K ck) (seat ck) : sProp 𝕄)) ⊢ _ from bigSep_elim (Finset.mem_univ ck))
  iexact H
theorem records_reached (ck : Dev nD × Seat) : records m ρ K ⊢ reached ER (seat ck) 0 := by

  unfold records
  iintro ⟨-, H⟩
  iapply (show (bigSep Finset.univ fun ck : Dev nD × Seat => (reached ER (seat ck) 0 : sProp 𝕄)) ⊢ _ from bigSep_elim (Finset.mem_univ ck))
  iexact H

/-- The tokens of the copies device `c` sends. -/
def sendToks (c : Dev nD) : sProp 𝕄 :=
  iprop((bigSep Finset.univ fun k : Chunk => iprop(dutyTok ER (cell c (sx k)) 0 false ∗ dutyTok ER (cell (acrossX c) (rx k)) 0 false))
    ∗ bigSep Finset.univ fun k : Fin 14 => iprop(dutyTok ER (cell c (sy k)) 0 false ∗ dutyTok ER (cell (acrossY c) (ry k)) 0 false))
/-- What stays with device `c`: its positions and the tokens of what it pays. -/
def linear (c : Dev nD) : sProp 𝕄 :=
  iprop((bigSep Finset.univ fun k : Seat => atPos ER (seat (c, k)) 0 ∅ 0)
    ∗ dutyTok ER (bar (acrossX c)) 0 false ∗ dutyTok ER (bar (acrossY c)) 0 true ∗ sendToks c)
def ghost (c : Dev nD) : sProp 𝕄 := iprop(records m ρ K ∗ linear c)
/-- The units device `c` will find at its semaphores. -/
def creds (c : Dev nD) : sProp 𝕄 :=
  iprop(cred (tallyAt (bar c) () 2)
    ∗ (bigSep Finset.univ fun k : Chunk => cred (tallyAt (cell c (rx k)) () (units (rx k))))
    ∗ bigSep Finset.univ fun k : Fin 14 => cred (tallyAt (cell c (ry k)) () (units (ry k))))
def start (c : Dev nD) : sProp 𝕄 := iprop((∃ K, ghost m ρ K c) ∗ creds c ∗ levAts L lv)

end Cert.Exchange
-- ==== Proof.Steps.lean ====
/-
The effects a run is made of, each with what it takes and what it leaves: a copy sent, a semaphore waited for, a landed
chunk summed; and the rule of a loop.
-/
module

public import proofs.«01_k».proof.Proof.Protocol
public import Idealize.ShloMosaic.Lib.SparseCore.Stream
public import Idealize.ShloMosaic.Lib.Pipeline.Value

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × Seat → ℕ)

abbrev 𝒱₀ : Variants := Variants.none

/-- Device `c` runs `p` and ends with `Q`. -/
abbrev exec (c : Dev nD) (p : Step F) (Q : PUnit → sProp 𝕄) : sProp 𝕄 :=
  wp frame (wpE (defs₀ (F := F)) 𝒱₀ (c : Thread nD τ) none) Set.univ p Q

/-- What every step may use. -/
def common : sProp 𝕄 := iprop(records m ρ K ∗ levAts L lv)
instance common_persistent : BI.Persistent (common m ρ K) := by unfold common; infer_instance

/-- Device `c` owes `O`. -/
def owing (c : Dev nD) (O : CellTallies nD τ sig Unit) : sProp 𝕄 := iprop(∃ W, owes (c : Thread nD τ) O W)

/-! ## Sequences and loops -/

/-- `p`, then `q`. -/
theorem exec_seq (c : Dev nD) (p q : Step F) {P : sProp 𝕄} {Q : PUnit → sProp 𝕄} :
    iprop(exec c p (fun _ => P) ∗ (P -∗ exec c q Q)) ⊢ exec c (p >>= fun _ => q) Q := by
  unfold exec
  rw [wp_bind]
  iintro ⟨Hp, Hq⟩
  iapply (wp_wand_r frame (wpE (defs₀ (F := F)) 𝒱₀ (c : Thread nD τ) none) Set.univ)
  isplitl [Hp]; · iexact Hp
  iintro %v HP
  iapply Hq; iexact HP

/-- Nothing left to run. -/
theorem exec_ret (c : Dev nD) {Q : PUnit → sProp 𝕄} : Q ⟨⟩ ⊢ exec (F := F) c (pure ⟨⟩) Q := by
  unfold exec
  rw [Prog.pure_eq_ret, wp_ret]
  iintro H
  imodintro
  iexact H

/-- What is held beside `p` is there at its end. -/
theorem exec_frame (c : Dev nD) (p : Step F) {P : sProp 𝕄} {Q : PUnit → sProp 𝕄} :
    iprop(exec c p (fun _ => P) ∗ (P -∗ Q ⟨⟩)) ⊢ exec c p Q := by
  unfold exec
  iintro ⟨Hp, Hq⟩
  iapply (wp_wand_r frame (wpE (defs₀ (F := F)) 𝒱₀ (c : Thread nD τ) none) Set.univ)
  isplitl [Hp]; · iexact Hp
  iintro %v HP
  iapply Hq; iexact HP

/-- A loop whose step `k` makes `B k` of `A k` and moves `J` one on makes all the `B`s of the `A`s. -/
theorem exec_each (c : Dev nD) (R : sProp 𝕄) [BI.Persistent R] {q : Step F} {Q : PUnit → sProp 𝕄} :
    ∀ {n : ℕ} {f : Fin n → Step F} {A B : Fin n → sProp 𝕄} {J : ℕ → sProp 𝕄},
      (∀ k, iprop(R ∗ A k ∗ J k.val) ⊢ exec c (f k) fun _ => iprop(B k ∗ J (k.val + 1))) →
      iprop(R ∗ (bigSep Finset.univ A ∗ J 0) ∗ ((bigSep Finset.univ B ∗ J n) -∗ exec c q Q)) ⊢ exec c (each n f q) Q
  | 0, f, A, B, J, h => by
    show _ ⊢ exec c q Q
    iintro ⟨-, ⟨-, HJ⟩, Hq⟩
    iapply Hq
    isplitr
    · rw [Finset.univ_eq_empty, bigSep_empty]; iempintro
    iexact HJ
  | n + 1, f, A, B, J, h => by
    show _ ⊢ exec c (f 0 >>= fun _ => each n (fun k => f k.succ) q) Q
    rw [bigSep_univ_succ A, bigSep_univ_succ B]
    iintro ⟨#HR, ⟨⟨HA, HAs⟩, HJ⟩, Hq⟩
    iapply (exec_seq c (f 0) _ (P := iprop(B 0 ∗ J 1)))
    isplitl [HA HJ]
    · iapply (show iprop(R ∗ A 0 ∗ J 0) ⊢ exec c (f 0) fun _ => iprop(B 0 ∗ J 1) from h 0)
      isplitr; · iexact HR
      isplitl [HA]; · iexact HA
      iexact HJ
    iintro ⟨HB, HJ⟩
    iapply (exec_each c R (f := fun k => f k.succ) (A := fun k => A k.succ) (B := fun k => B k.succ) (J := fun i => J (i + 1)) fun k => h k.succ)
    isplitr; · iexact HR
    isplitl [HAs HJ]
    · isplitl [HAs] <;> iassumption
    iintro ⟨HBs, HJ⟩
    iapply Hq
    isplitl [HB HBs]
    · isplitl [HB] <;> iassumption
    iexact HJ

/-! ## A wait and a copy -/

/-- A wait at a copy's end: what it hands over, and the semaphore closed at zero. -/
theorem exec_wait (c : Dev nD) (a : Duct) {s : Shape} {e : EltTy} {src dst : Memref sig .tc .vmem s e}
    {hs : src.view.WordExact} {hd : dst.view.WordExact} (hc : dst.view.dmaCredit = units a) {n : ℕ}
    (hn : lv (cell c a) () ≤ n) {O : CellTallies nD τ sig Unit} (hO : Above n O) :
    iprop(common m ρ K ∗ (atPos ER (cell c a) 0 ∅ 0 ∗ cred (tallyAt (cell c a) () (units a))) ∗ owing c O)
      ⊢ exec (F := F) c (Prog.lift (.waitDma2 (ductSem a) src dst hs hd))
          fun _ => iprop((pay m ρ c a ∗ semVal (cell c a) 0) ∗ owing c O) := by
  unfold common owing
  rw [← hc]
  iintro ⟨⟨#HR, #Hl⟩, ⟨Hat, Hcr⟩, %W, HO⟩
  ihave #HI := (records_inv m ρ K (c, .inr a)) $$ HR
  iapply (Rounds.wp_wait_rest_token 𝒱₀ ER (Rd m ρ) (c : Thread nD τ) none (κ := K (c, .inr a))
      (wpE_waitDma2_eq 𝒱₀ (c : Thread nD τ) none Set.univ) (Set.mem_univ _) () (O := O) (W := W) (R := 0) (m := 0) (T := ∅)
      (by rw [expect_cell, Nat.zero_add]; exact hc)) $$ [Hcr HO Hat]
  · isplitr; · iexact HI
    isplitl [Hcr]; · iexact Hcr
    isplitl [HO]; · iexact HO
    isplitr; · iapply (mayWait c (osem a) hn hO); iexact Hl
    iexact Hat
  iintro ⟨HO, Hat, -, Hpay⟩
  ihave Hp := (Entails.of_eq (rest_cell m ρ c a)) $$ Hpay
  rw [wp_ret]
  imod (Rounds.cell_close ER (Rd m ρ) (Set.mem_univ (K (c, .inr a))) (fun h => h) (R := 0 + 1) (duties_later m ρ (cell c a))) $$ [Hat] with Hz
  · isplitr; · iexact HI
    iexact Hat
  imodintro
  isplitl [Hp Hz]
  · isplitl [Hp] <;> iassumption
  iexists _; iexact HO

/-- A copy from `src` here to `dst` on device `n`: it pays `a'` there and will pay `a` here. -/
theorem exec_send (c n : Dev nD) (a a' : Duct) (hu : units a = units a') {R : ℕ} {src dst : Memref sig .tc .vmem (Rows R) .f32}
    {hs : src.view.WordExact} {hd : dst.view.WordExact} {hsc : dst.view.ref.isScScratch = false}
    {hsem : DmaTarget.Typed .vmem (.dma (ductSem a')) (.remote (Dev.tc n : Thread nD τ) dst (.dma (ductSem a)) hsc)}
    (hc : dst.view.dmaCredit = units a') (q : PosShare TreeShare) (X : (Rows R).Idx → Elt F .f32)
    (h₁ : owns (c : Thread nD τ) src q X ⊢ pay m ρ c a) (h₂ : owns (n : Thread nD τ) dst fullShare X ⊢ pay m ρ n a')
    (O : CellTallies nD τ sig Unit) :
    iprop(common m ρ K ∗ ((dutyTok ER (cell c a) 0 false ∗ dutyTok ER (cell n a') 0 false)
          ∗ owns (c : Thread nD τ) src q X ∗ ∃ Y, owns (n : Thread nD τ) dst fullShare Y)
        ∗ owing c (O + tallyAt (cell n a') () (units a')))
      ⊢ exec (F := F) c (Prog.lift (.enqueueDma src (.remote (Dev.tc n : Thread nD τ) dst (.dma (ductSem a)) hsc) (.dma (ductSem a')) hs hd hsem))
          fun _ => iprop(cred (tallyAt (cell c a) () (units a)) ∗ owing c O) := by
  unfold common owing owns
  iintro ⟨⟨#HR, -⟩, ⟨⟨Ht, Ht'⟩, ⟨%fs, %hfs, Hs⟩, %Y, %fd, -, Hd⟩, %W, HO⟩
  ihave #HI := (records_inv m ρ K (c, .inr a)) $$ HR
  ihave #HI' := (records_inv m ρ K (n, .inr a')) $$ HR
  ihave #Hr := (records_reached m ρ K (c, .inr a)) $$ HR
  ihave #Hr' := (records_reached m ρ K (n, .inr a')) $$ HR
  subst hfs
  iapply (Rounds.wp_send_pointsTo 𝒱₀ ER (Rd m ρ) (c : Thread nD τ) none (κ₁ := K (c, .inr a)) (κ₂ := K (n, .inr a'))
    (r₁ := 0) (r₂ := 0) (d₁ := false) (d₂ := false) (fs := fs) (fd := fd) (q := q)
    (by rw [duties_cell]; exact Finset.mem_singleton_self _) (by rw [duties_cell]; exact Finset.mem_singleton_self _)
    () () (units a') (show dst.view.amount (.dma (ductSem a')) = units a' from hc) ((amount_cell m ρ c a false).trans hu) (amount_cell m ρ n a' false) O rfl (W := W)
    (by rw [payload_cell]; exact (owns_intro (c : Thread nD τ) src q fs).trans h₁)
    (by
      rw [payload_cell]
      refine (owns_intro (n : Thread nD τ) dst fullShare _).trans ?_
      rw [View.read_write_univ]
      exact h₂)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  rw [wp_ret, hu]
  imodintro
  isplitl [Hc]; · iexact Hc
  iexists W; iexact HO

/-! ## A chunk summed -/

/-- The sum of the parts of two blocks on a band is the part of their sum. -/
theorem bandSum_on (b : Bool) (k : Chunk) (X Y : FVec F (Rows 512) .f32) :
    bandSum (R := rows k) (on X (there b k)) (on Y (there b k)) = on (addf X Y : FVec F (Rows 512) .f32) (there b k) := by
  unfold bandSum
  rw [Idealize.ShloMosaic.shapeCast_self]
  rfl

/-- The sum of the operand's chunk and of the landed one is stored in the result. -/
theorem exec_addX (c : Dev nD) (b : Bool) (k : Chunk) (q : PosShare TreeShare) (X Y : Vec F (Rows 512) .f32) :
    iprop(owns (c : Thread nD τ) xM q X ∗ owns (c : Thread nD τ) (rAt k) fullShare (on Y (there b k))
        ∗ ∃ Z, owns (c : Thread nD τ) (oAt b k) fullShare Z)
      ⊢ exec (F := F) c (addX b k) fun _ => iprop(owns (c : Thread nD τ) xM q X
          ∗ owns (c : Thread nD τ) (rAt k) fullShare (on Y (there b k))
          ∗ owns (c : Thread nD τ) (oAt b k) fullShare (on (addf (X : FVec F (Rows 512) .f32) Y : FVec F (Rows 512) .f32) (there b k))) := by
  unfold addX owns
  simp only [Prog.lift, Prog.bind_op, Prog.bind_ret]
  iintro ⟨⟨%fx, %hx, Hx⟩, ⟨%fr, %hr, Hr⟩, %Z, %fo, -, Ho⟩
  iapply (wp_load_rect 𝒱₀ (c : Thread nD τ) none Set.univ (m := xM) (r := there b k) (View.set_slice_subset _ _)) $$ Hx; iintro Hx
  iapply (wp_load_rect 𝒱₀ (c : Thread nD τ) none Set.univ (m := rM) (r := land k) (Finset.Subset.refl _)) $$ Hr; iintro Hr
  iapply (wp_load_rect 𝒱₀ (c : Thread nD τ) none Set.univ (m := oM) (r := there b k) (Finset.Subset.refl _)) $$ Ho; iintro Ho
  rw [show (xM.access (there b k)).read (Elt F) fx = on X (there b k) from by rw [← hx]; rfl,
    show (rM.access (land k)).read (Elt F) fr = on Y (there b k) from hr, bandSum_on]
  iapply (wp_store 𝒱₀ (c : Thread nD τ) none Set.univ (m := oM) (r := there b k) (Mk := Finset.univ) (S := (oAt b k).view.set) (Finset.Subset.refl _)) $$ Ho; iintro Ho
  rw [wp_ret]
  imodintro
  isplitl [Hx]
  · iexists fx; isplitr; · (ipureintro; exact hx)
    iexact Hx
  isplitl [Hr]
  · iexists fr; isplitr; · (ipureintro; exact hr)
    iexact Hr
  iexists (oM.access (there b k)).write (Elt F) fo (on (addf (X : FVec F (Rows 512) .f32) Y : FVec F (Rows 512) .f32) (there b k)) Finset.univ
  isplitr
  · ipureintro; exact View.read_write_univ _ _
  iexact Ho

end Cert.Exchange
-- ==== Proof.Run.lean ====
/-
The run: from the positions, tokens and buffers a device holds after the barrier to the result and its semaphores at zero.
-/
module

public import proofs.«01_k».proof.Proof.Steps

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × Seat → ℕ)

/-- A family over the sixteen chunks: over the fourteen, and the two others. -/
theorem bigSep_chunk (Φ : Chunk → sProp 𝕄) :
    bigSep Finset.univ Φ = iprop((bigSep Finset.univ fun k : Fin 14 => Φ (.inl k)) ∗ Φ (.inr false) ∗ Φ (.inr true)) := by
  rw [bigSep_univ_sum, bigSep_univ_eq_bigSepL (I := Bool) [false, true] (by decide) (by decide)]
  rfl

/-- The loop over the sixteen chunks. -/
theorem exec_eachX (c : Dev nD) (R : sProp 𝕄) [BI.Persistent R] {f : Chunk → Step F} {q : Step F} {Q : PUnit → sProp 𝕄}
    {A B : Chunk → sProp 𝕄} {J : ℕ → sProp 𝕄}
    (h : ∀ k, iprop(R ∗ A k ∗ J (num k).val) ⊢ exec c (f k) fun _ => iprop(B k ∗ J ((num k).val + 1))) :
    iprop(R ∗ (bigSep Finset.univ A ∗ J 0) ∗ ((bigSep Finset.univ B ∗ J 16) -∗ exec c q Q)) ⊢ exec c (eachX f q) Q := by
  unfold eachX
  rw [bigSep_chunk, bigSep_chunk]
  iintro ⟨#HR, ⟨⟨HA, HA0, HA1⟩, HJ⟩, Hq⟩
  iapply (exec_each c R (f := fun k => f (.inl k)) (A := fun k => A (.inl k)) (B := fun k => B (.inl k)) (J := J) fun k => h (.inl k))
  isplitr; · iexact HR
  isplitl [HA HJ]
  · isplitl [HA] <;> iassumption
  iintro ⟨HB, HJ⟩
  iapply (exec_seq c (f (.inr false)) _ (P := iprop(B (.inr false) ∗ J 15)))
  isplitl [HA0 HJ]
  · iapply (show iprop(R ∗ A (.inr false) ∗ J 14) ⊢ exec c (f (.inr false)) fun _ => iprop(B (.inr false) ∗ J 15) from h (.inr false))
    isplitr; · iexact HR
    isplitl [HA0] <;> iassumption
  iintro ⟨HB0, HJ⟩
  iapply (exec_seq c (f (.inr true)) _ (P := iprop(B (.inr true) ∗ J 16)))
  isplitl [HA1 HJ]
  · iapply (show iprop(R ∗ A (.inr true) ∗ J 15) ⊢ exec c (f (.inr true)) fun _ => iprop(B (.inr true) ∗ J 16) from h (.inr true))
    isplitr; · iexact HR
    isplitl [HA1] <;> iassumption
  iintro ⟨HB1, HJ⟩
  iapply Hq
  isplitl [HB HB0 HB1]
  · isplitl [HB]; · iexact HB
    isplitl [HB0] <;> iassumption
  iexact HJ

/-! ## The copies across the first axis -/

variable (c : Dev nD)

/-- The chunk of device `n`'s landing buffer, at any contents, -/
abbrev landAny (n : Dev nD) (k : Chunk) : sProp 𝕄 := iprop(∃ Y, owns (n : Thread nD τ) (rAt k) fullShare Y)
/-- and of its result. -/
abbrev outAny (n : Dev nD) (b : Bool) (k : Chunk) : sProp 𝕄 := iprop(∃ Y, owns (n : Thread nD τ) (oAt b k) fullShare Y)

/-- What sending chunk `k` takes. -/
def givesX (k : Chunk) : sProp 𝕄 :=
  iprop((dutyTok ER (cell c (sx k)) 0 false ∗ dutyTok ER (cell (acrossX c) (rx k)) 0 false)
    ∗ owns (c : Thread nD τ) (xAt (side c) k) fullShare.right (on (xstg m ρ c) (there (side c) k)) ∗ landAny (acrossX c) k)

theorem step_copyX (k : Chunk) :
    iprop(common m ρ K ∗ givesX m ρ c k ∗ owing c (dueX c (num k).val + dueY c 0))
      ⊢ exec (F := F) c (copyX (acrossX c) (side c) k)
          fun _ => iprop(cred (tallyAt (cell c (sx k)) () (units (sx k))) ∗ owing c (dueX c ((num k).val + 1) + dueY c 0)) := by
  rw [dueX_succ, add_right_comm]
  exact exec_send m ρ K c (acrossX c) (sx k) (rx k) rfl (by rfl) fullShare.right _ (by exact .rfl)
    (by simp only [pay]; rw [acrossX_acrossX, side_acrossX]) _

/-! ## The chunks summed, and the copies across the second axis -/

/-- What sending chunk `k` on takes, beside the chunk. -/
def givesY (k : Fin 14) : sProp 𝕄 :=
  iprop((dutyTok ER (cell c (sy k)) 0 false ∗ dutyTok ER (cell (acrossY c) (ry k)) 0 false) ∗ outAny (acrossY c) (side c) (.inl k))

theorem step_copyY (k : Fin 14) :
    iprop(common m ρ K ∗ (givesY c k ∗ owns (c : Thread nD τ) (oAt (side c) (.inl k)) fullShare (on (sumOf m ρ c) (there (side c) (.inl k))))
        ∗ owing c (dueY c k.val))
      ⊢ exec (F := F) c (copyY (acrossY c) (side c) k)
          fun _ => iprop(cred (tallyAt (cell c (sy k)) () (units (sy k))) ∗ owing c (dueY c (k.val + 1))) := by
  rw [dueY_succ]
  unfold givesY
  refine BIBase.Entails.trans ?_ (exec_send m ρ K c (acrossY c) (sy k) (ry k) rfl (src := oAt (side c) (.inl k)) (by rfl) fullShare _ (by exact .rfl)
    (by simp only [pay]; rw [acrossY_acrossY, side_acrossY, Bool.not_not]) _)
  iintro ⟨#HR, ⟨⟨Ht, Hd⟩, Hs⟩, HO⟩
  isplitr; · iexact HR
  isplitl [Ht Hd Hs]
  · isplitl [Ht]; · iexact Ht
    isplitl [Hs] <;> iassumption
  iexact HO

/-- The operand kept, at the share that is not lent to the copies. -/
abbrev kept : sProp 𝕄 := owns (c : Thread nD τ) xM fullShare.left (xstg m ρ c)

/-- What taking chunk `k` takes beside the landed chunk's position and credit, -/
def takes : Chunk → sProp 𝕄
  | .inl k => givesY c k
  | .inr _ => iprop(emp)
/-- and what it leaves: the credit of the copy sent on, or the sum. -/
def leaves : Chunk → sProp 𝕄
  | .inl k => cred (tallyAt (cell c (sy k)) () (units (sy k)))
  | .inr e => owns (c : Thread nD τ) (oAt (side c) (.inr e)) fullShare (on (sumOf m ρ c) (there (side c) (.inr e)))

/-- A landed chunk waited for and summed. -/
theorem step_sum (k : Chunk) (i : ℕ) (q : Step F) {Q : PUnit → sProp 𝕄} :
    iprop(common m ρ K ∗ ((atPos ER (cell c (rx k)) 0 ∅ 0 ∗ cred (tallyAt (cell c (rx k)) () (units (rx k)))) ∗ outAny c (side c) k)
        ∗ (kept m ρ c ∗ owing c (dueY c i))
        ∗ ((semVal (cell c (rx k)) 0 ∗ landAny c k ∗ owns (c : Thread nD τ) (oAt (side c) k) fullShare (on (sumOf m ρ c) (there (side c) k))
            ∗ kept m ρ c ∗ owing c (dueY c i)) -∗ exec c q Q))
      ⊢ exec (F := F) c (landX (side c) k >>= fun _ => addX (side c) k >>= fun _ => q) Q := by
  iintro ⟨#HR, ⟨Hw, Ho⟩, ⟨Hx, HO⟩, Hq⟩
  iapply (exec_seq c (landX (side c) k) _ (P := iprop((pay m ρ c (rx k) ∗ semVal (cell c (rx k)) 0) ∗ owing c (dueY c i))))
  isplitl [Hw HO]
  · iapply (exec_wait m ρ K c (rx k) (by rfl) (n := 2) (by rw [lv_rx]) (above_dueY (by decide) c i))
    isplitr; · iexact HR
    isplitl [Hw] <;> iassumption
  iintro ⟨⟨Hp, Hz⟩, HO⟩
  ihave Hp := (Entails.of_eq (show pay m ρ c (rx k) = owns (c : Thread nD τ) (rAt k) fullShare (on (xstg m ρ (acrossX c)) (there (side c) k)) from rfl)) $$ Hp
  iapply (exec_seq c (addX (side c) k) _ (P := iprop(kept m ρ c ∗ owns (c : Thread nD τ) (rAt k) fullShare (on (xstg m ρ (acrossX c)) (there (side c) k))
    ∗ owns (c : Thread nD τ) (oAt (side c) k) fullShare (on (sumOf m ρ c) (there (side c) k)))))
  isplitl [Hx Hp Ho]
  · iapply (exec_addX c (side c) k fullShare.left (xstg m ρ c) (xstg m ρ (acrossX c)))
    isplitl [Hx]; · iexact Hx
    isplitl [Hp] <;> iassumption
  iintro ⟨Hx, Hp, Ho⟩
  iapply Hq
  isplitl [Hz]; · iexact Hz
  isplitl [Hp]; · iexists _; iexact Hp
  isplitl [Ho]; · iexact Ho
  isplitl [Hx] <;> iassumption

theorem step_takeX (k : Chunk) :
    iprop(common m ρ K ∗ (((atPos ER (cell c (rx k)) 0 ∅ 0 ∗ cred (tallyAt (cell c (rx k)) () (units (rx k)))) ∗ outAny c (side c) k) ∗ takes c k)
        ∗ (kept m ρ c ∗ owing c (dueY c (num k).val)))
      ⊢ exec (F := F) c (takeX c (side c) k)
          fun _ => iprop((semVal (cell c (rx k)) 0 ∗ landAny c k ∗ leaves m ρ c k) ∗ (kept m ρ c ∗ owing c (dueY c ((num k).val + 1)))) := by
  rcases k with k | e
  · unfold takeX takes leaves
    iintro ⟨#HR, ⟨Hw, Hg⟩, Hx, HO⟩
    iapply (step_sum m ρ K c (.inl k) k.val (copyY (acrossY c) (side c) k))
    isplitr; · iexact HR
    isplitl [Hw]; · iexact Hw
    isplitl [Hx HO]
    · isplitl [Hx] <;> iassumption
    iintro ⟨Hz, Hl, Ho, Hx, HO⟩
    iapply (exec_frame c (copyY (acrossY c) (side c) k) (P := iprop(cred (tallyAt (cell c (sy k)) () (units (sy k))) ∗ owing c (dueY c (k.val + 1)))))
    isplitl [Hg Ho HO]
    · iapply (step_copyY m ρ K c k)
      isplitr; · iexact HR
      isplitl [Hg Ho]
      · isplitl [Hg] <;> iassumption
      iexact HO
    iintro ⟨Hc, HO⟩
    isplitl [Hz Hl Hc]
    · isplitl [Hz]; · iexact Hz
      isplitl [Hl] <;> iassumption
    isplitl [Hx] <;> iassumption
  · unfold takeX takes leaves
    have he : 14 ≤ (num (.inr e)).val := by cases e <;> decide
    rw [dueY_end c he, ← dueY_end c (Nat.le_refl 14)]
    iintro ⟨#HR, ⟨Hw, -⟩, Hx, HO⟩
    iapply (step_sum m ρ K c (.inr e) 14 (pure ⟨⟩))
    isplitr; · iexact HR
    isplitl [Hw]; · iexact Hw
    isplitl [Hx HO]
    · isplitl [Hx] <;> iassumption
    iintro ⟨Hz, Hl, Ho, Hx, HO⟩
    rw [dueY_end c (Nat.le_refl 14), dueY_end c (Nat.le_succ_of_le he)]
    iapply (exec_ret c)
    isplitl [Hz Hl Ho]
    · isplitl [Hz]; · iexact Hz
      isplitl [Hl] <;> iassumption
    isplitl [Hx] <;> iassumption

/-! ## The waits -/

theorem units_x (b : Bool) (k : Chunk) : (xAt b k).view.dmaCredit = units (sx k) := by
  rcases k with k | k <;> rfl

theorem step_sentX (k : Chunk) :
    iprop(common m ρ K ∗ (atPos ER (cell c (sx k)) 0 ∅ 0 ∗ cred (tallyAt (cell c (sx k)) () (units (sx k)))) ∗ owing c 0)
      ⊢ exec (F := F) c (sentX (side c) k) fun _ => iprop((pay m ρ c (sx k) ∗ semVal (cell c (sx k)) 0) ∗ owing c 0) :=
  exec_wait m ρ K c (sx k) (units_x _ k) (Nat.le_refl _) (Above.zero _)

theorem step_awaitY (k : Fin 14) :
    iprop(common m ρ K ∗ (atPos ER (cell c (ry k)) 0 ∅ 0 ∗ cred (tallyAt (cell c (ry k)) () (units (ry k)))) ∗ owing c 0)
      ⊢ exec (F := F) c (awaitY (side c) k) fun _ => iprop((pay m ρ c (ry k) ∗ semVal (cell c (ry k)) 0) ∗ owing c 0) :=
  exec_wait m ρ K c (ry k) (by rfl) (Nat.le_refl _) (Above.zero _)

theorem step_sentY (k : Fin 14) :
    iprop(common m ρ K ∗ (atPos ER (cell c (sy k)) 0 ∅ 0 ∗ cred (tallyAt (cell c (sy k)) () (units (sy k)))) ∗ owing c 0)
      ⊢ exec (F := F) c (sentY (side c) k) fun _ => iprop((pay m ρ c (sy k) ∗ semVal (cell c (sy k)) 0) ∗ owing c 0) :=
  exec_wait m ρ K c (sy k) (by rfl) (Nat.le_refl _) (Above.zero _)

/-! ## The run -/

/-- What a device holds after the barrier: of each copy's end its position, the credits of the receptions, what the copies
    take, the operand's other half and the rows of the result it sums. -/
def before : sProp 𝕄 :=
  iprop(bigSep Finset.univ (givesX m ρ c) ∗ bigSep Finset.univ (givesY c)
    ∗ (bigSep Finset.univ fun k => outAny c (side c) k)
    ∗ (bigSep Finset.univ fun a : Duct => atPos ER (cell c a) 0 ∅ 0)
    ∗ (bigSep Finset.univ fun k => cred (tallyAt (cell c (rx k)) () (units (rx k))))
    ∗ (bigSep Finset.univ fun k => cred (tallyAt (cell c (ry k)) () (units (ry k))))
    ∗ kept m ρ c)
/-- What it holds at the end: of each copy's end its semaphore at zero, the landing buffer, the result summed or received,
    and the operand. -/
def afterwards : sProp 𝕄 :=
  iprop((bigSep Finset.univ fun a : Duct => semVal (cell c a) 0)
    ∗ (bigSep Finset.univ fun k => landAny c k)
    ∗ (bigSep Finset.univ fun k : Chunk => owns (c : Thread nD τ) (oAt (side c) k) fullShare (on (sumOf m ρ c) (there (side c) k)))
    ∗ (bigSep Finset.univ fun k : Fin 14 => pay m ρ c (ry k))
    ∗ (bigSep Finset.univ fun k : Chunk => pay m ρ c (sx k))
    ∗ kept m ρ c)

theorem bigSep_duct (Φ : Duct → sProp 𝕄) :
    bigSep Finset.univ Φ = iprop(((bigSep Finset.univ fun k => Φ (sx k)) ∗ bigSep Finset.univ fun k => Φ (rx k))
      ∗ (bigSep Finset.univ fun k => Φ (sy k)) ∗ bigSep Finset.univ fun k => Φ (ry k)) := by
  rw [bigSep_univ_sum, bigSep_univ_sum (fun x : Chunk ⊕ Chunk => Φ (.inl x)), bigSep_univ_sum (fun x : Fin 14 ⊕ Fin 14 => Φ (.inr x))]
  rfl

theorem exec_run :
    iprop(common m ρ K ∗ before m ρ c ∗ owing c (O₁ c))
      ⊢ exec (F := F) c (run c (side c)) fun _ => iprop(afterwards m ρ c ∗ owing c 0) := by
  unfold before run O₁
  rw [bigSep_duct]
  iintro ⟨#HR, ⟨HgX, HgY, Ho, ⟨⟨HaSX, HaRX⟩, HaSY, HaRY⟩, HcRX, HcRY, Hx⟩, HO⟩
  -- the sixteen chunks sent
  iapply (exec_eachX c (common m ρ K) (J := fun i => owing c (dueX c i + dueY c 0)) (step_copyX m ρ K c))
  isplitr; · iexact HR
  isplitl [HgX HO]
  · isplitl [HgX] <;> iassumption
  iintro ⟨HcSX, HO⟩
  rw [dueX_end, zero_add]
  -- each taken
  iapply (exec_eachX c (common m ρ K) (J := fun i => iprop(kept m ρ c ∗ owing c (dueY c i))) (step_takeX m ρ K c))
  isplitr; · iexact HR
  isplitl [HaRX HcRX Ho HgY Hx HO]
  · isplitr [Hx HO]
    · simp only [bigSep_sep']
      isplitl [HaRX HcRX Ho]
      · isplitl [HaRX HcRX]
        · isplitl [HaRX] <;> iassumption
        iexact Ho
      rw [bigSep_chunk]
      isplitl [HgY]; · iexact HgY
      isplitr <;> iempintro
    isplitl [Hx] <;> iassumption
  rw [dueY_end c (by decide : 14 ≤ 16)]
  simp only [bigSep_sep']
  iintro ⟨⟨HzRX, Hl, Hv⟩, Hx, HO⟩
  ihave Hv := (Entails.of_eq (bigSep_chunk (leaves m ρ c))) $$ Hv
  icases Hv with ⟨HcSY, Ho0, Ho1⟩
  -- the other device's sums
  iapply (exec_each c (common m ρ K) (J := fun _ => owing c 0) (step_awaitY m ρ K c))
  isplitr; · iexact HR
  isplitl [HaRY HcRY HO]
  · isplitr [HO]
    · simp only [bigSep_sep']
      isplitl [HaRY] <;> iassumption
    iexact HO
  simp only [bigSep_sep']
  iintro ⟨⟨HpRY, HzRY⟩, HO⟩
  -- every chunk read
  iapply (exec_eachX c (common m ρ K) (J := fun _ => owing c 0) (step_sentX m ρ K c))
  isplitr; · iexact HR
  isplitl [HaSX HcSX HO]
  · isplitr [HO]
    · simp only [bigSep_sep']
      isplitl [HaSX] <;> iassumption
    iexact HO
  simp only [bigSep_sep']
  iintro ⟨⟨HpSX, HzSX⟩, HO⟩
  iapply (exec_each c (common m ρ K) (J := fun _ => owing c 0) (step_sentY m ρ K c))
  isplitr; · iexact HR
  isplitl [HaSY HcSY HO]
  · isplitr [HO]
    · simp only [bigSep_sep']
      isplitl [HaSY]; · iexact HaSY
      iexact HcSY
    iexact HO
  simp only [bigSep_sep']
  iintro ⟨⟨HpSY, HzSY⟩, HO⟩
  iapply (exec_ret c)
  isplitr [HO]
  · unfold afterwards
    simp only [leaves]
    rw [bigSep_duct, bigSep_chunk (fun k => owns (c : Thread nD τ) (oAt (side c) k) fullShare (on (sumOf m ρ c) (there (side c) k)))]
    isplitl [HzRX HzRY HzSX HzSY]
    · isplitl [HzSX HzRX]
      · isplitl [HzSX] <;> iassumption
      isplitl [HzSY] <;> iassumption
    isplitl [Hl]; · iexact Hl
    isplitl [HpSY Ho0 Ho1]
    · isplitl [HpSY]; · iexact HpSY
      isplitl [Ho0]; · iexact Ho0
      iexact Ho1
    isplitl [HpRY]; · iexact HpRY
    isplitl [HpSX] <;> iassumption
  iexact HO

end Cert.Exchange
-- ==== Proof.Body.lean ====
/-
The body of the kernel on one device: its buffers cut into the parts the copies move, the barrier, the run, and the parts
put together again.
-/
module

public import proofs.«01_k».proof.Proof.Run
public import proofs.«01_k».proof.Proof.Gen.KernelIdeal.Points

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × Seat → ℕ)

variable (c : Dev nD)

/-! ## Buffers cut and joined -/

/-- A buffer of 512 rows is its parts, -/
theorem cut (M : Memref sig .tc .vmem (Rows 512) .f32) (b : Bool) (q : PosShare TreeShare) (X : Vec F (Rows 512) .f32) :
    owns (c : Thread nD τ) M q X
      ⊢ (iprop((bigSep Finset.univ fun k : Chunk => owns (c : Thread nD τ) (M.slice (there b k) (fun _ => rfl)) q (on X (there b k)))
        ∗ bigSep Finset.univ fun k : Fin 14 => owns (c : Thread nD τ) (M.slice (there (!b) (.inl k)) (fun _ => rfl)) q (on X (there (!b) (.inl k)))) : sProp 𝕄) :=
  BIBase.Entails.trans (owns_rects (c : Thread nD τ) M q (part b) (part_stride b) (part_disjoint b) (part_cover b) X)
    (Entails.of_eq (bigSep_univ_sum _))
/-- and its parts make it up. -/
theorem join (M : Memref sig .tc .vmem (Rows 512) .f32) (b : Bool) (q : PosShare TreeShare) (X : Vec F (Rows 512) .f32) :
    (iprop((bigSep Finset.univ fun k : Chunk => owns (c : Thread nD τ) (M.slice (there b k) (fun _ => rfl)) q (on X (there b k)))
        ∗ bigSep Finset.univ fun k : Fin 14 => owns (c : Thread nD τ) (M.slice (there (!b) (.inl k)) (fun _ => rfl)) q (on X (there (!b) (.inl k)))) : sProp 𝕄)
      ⊢ owns (c : Thread nD τ) M q X :=
  BIBase.Entails.trans (Entails.of_eq (bigSep_univ_sum fun t : Part => owns (c : Thread nD τ) (M.slice (part b t) (part_stride b t)) q (on X (part b t))).symm)
    (owns_of_rects (c : Thread nD τ) M q (part b) (part_stride b) (part_disjoint b) (part_cover b) X)

/-- A memory owned at some contents is owned at any. -/
theorem owns_any {sh : Shape} (M : Memref sig .tc .vmem sh .f32) (X : Vec F sh .f32) :
    owns (c : Thread nD τ) M fullShare X ⊢ (iprop(∃ Y, owns (c : Thread nD τ) M fullShare Y) : sProp 𝕄) := by
  iintro H; iexists X; iexact H

/-- The landing buffer, at any contents. -/
abbrev scratch : sProp 𝕄 := iprop(∃ f : Buf (Elt F) ((c : Thread nD τ).loc cc0_scratch0), ((c : Thread nD τ).loc cc0_scratch0) ↦{fullShare} f)

theorem scratch_cut : scratch (F := F) c ⊢ bigSep Finset.univ fun k => landAny (F := F) c k := by
  iintro ⟨%f, H⟩
  ihave H := (Entails.of_eq (owns_whole (c : Thread nD τ) cc0_scratch0 fullShare f).symm) $$ H
  ihave H := (owns_rects (c : Thread nD τ) rM fullShare land (fun _ _ => rfl) land_disjoint land_cover f) $$ H
  iapply (show (bigSep Finset.univ fun k => owns (c : Thread nD τ) (rAt k) fullShare (fun j => f ((land k).emb j)))
      ⊢ (bigSep Finset.univ fun k => landAny (F := F) c k : sProp 𝕄) from bigSep_mono fun k _ => owns_any c (rAt k) _)
  iexact H

theorem scratch_join : (bigSep Finset.univ fun k => landAny (F := F) c k) ⊢ scratch (F := F) c := by
  have h (k : Chunk) : landAny (F := F) c k
      ⊢ iprop(∃ g : Buf (Elt F) ((c : Thread nD τ).loc cc0_scratch0), ((c : Thread nD τ).loc cc0_scratch0) ↦[(land k).set]{fullShare} g) := by
    unfold landAny owns
    iintro ⟨%Y, %g, -, H⟩
    iexists g
    rw [← View.set_slice_whole cc0_scratch0 (land k)]
    iexact H
  iintro H
  ihave H := (BIBase.Entails.trans (bigSep_mono fun k _ => h k) (bigSep_exists_pi Finset.univ _)) $$ H
  icases H with ⟨%g, H⟩
  ihave H := (pointsTo_biUnion_join Finset.univ (fun k : Chunk => (land k).set) g (g (.inr false)) fun k _ k' _ h => land_disjoint k k' h) $$ H
  icases H with ⟨%f, -, H⟩
  iexists f
  rw [land_cover]
  iexact H

theorem x_halves (X : Vec F (Rows 512) .f32) :
    (owns (c : Thread nD τ) xM fullShare X : sProp 𝕄)
      ⊣⊢ iprop(owns (c : Thread nD τ) xM fullShare.left X ∗ owns (c : Thread nD τ) xM fullShare.right X) := by
  rw [owns_whole, owns_whole, owns_whole]
  exact pointsTo_share (PosShare.mem_left_op_right fullShare)

/-! ## The result -/

/-- What device `c`'s result holds: on the fourteen chunks that come from across the second axis that device's sum, and
    elsewhere its own. -/
def outAt : Vec F (Rows 512) .f32 := fun j =>
  if base (!side c) ≤ (j 0).val ∧ (j 0).val < base (!side c) + 224 then sumOf m ρ (acrossY c) j else sumOf m ρ c j

theorem outAt_own (k : Chunk) : on (outAt m ρ c) (there (side c) k) = on (sumOf m ρ c) (there (side c) k) := by
  funext j
  have hj : (j 0).val < rows k := (j 0).isLt
  have hr : ((there (side c) k).emb j 0).val = from' (side c) k + (j 0).val := band_row (h := from_le _ _) j
  show (if _ then _ else _) = _
  refine if_neg ?_
  rw [hr]
  rcases k with k | _ | _ <;> cases side c <;> simp only [from', rows, base, cond, Bool.not_true, Bool.not_false] at hj ⊢ <;> omega

theorem outAt_other (k : Fin 14) :
    on (outAt m ρ c) (there (!side c) (.inl k)) = on (sumOf m ρ (acrossY c)) (there (!side c) (.inl k)) := by
  funext j
  have hj : (j 0).val < 16 := (j 0).isLt
  have hr : ((there (!side c) (.inl k)).emb j 0).val = from' (!side c) (.inl k) + (j 0).val := band_row (h := from_le _ _) j
  show (if _ then _ else _) = _
  refine if_pos ?_
  rw [hr]
  simp only [from']
  omega

/-! ## Before the run and after it -/

/-- What the barrier leaves a device is what the run begins with. -/
theorem before_intro :
    iprop((bigSep Finset.univ fun a : Duct => atPos ER (cell c a) 0 ∅ 0) ∗ sendToks c
        ∗ (bigSep Finset.univ fun k => cred (tallyAt (cell c (rx k)) () (units (rx k))))
        ∗ (bigSep Finset.univ fun k => cred (tallyAt (cell c (ry k)) () (units (ry k))))
        ∗ payX c ∗ payY c
        ∗ (bigSep Finset.univ fun k => owns (c : Thread nD τ) (xAt (side c) k) fullShare.right (on (xstg m ρ c) (there (side c) k)))
        ∗ (bigSep Finset.univ fun k => outAny c (side c) k) ∗ kept m ρ c)
      ⊢ before m ρ c := by
  unfold before sendToks payX payY givesX givesY
  simp only [bigSep_sep']
  iintro ⟨Ha, ⟨HtX, HtY⟩, HcX, HcY, HpX, HpY, Hx, Ho, Hk⟩
  isplitl [HtX HpX Hx]
  · isplitl [HtX]; · iexact HtX
    isplitl [Hx]; · iexact Hx
    iexact HpX
  isplitl [HtY HpY]
  · isplitl [HtY]; · iexact HtY
    iexact HpY
  isplitl [Ho]; · iexact Ho
  isplitl [Ha]; · iexact Ha
  isplitl [HcX]; · iexact HcX
  isplitl [HcY]; · iexact HcY
  iexact Hk

/-- At the kernel's end: the landing buffer, and every semaphore of the device at zero. -/
def Φ₁ : sProp 𝕄 := iprop(scratch c ∗ (bigSep Finset.univ fun a : Duct => semVal (cell c a) 0) ∗ semVal (bar c) 0)

/-- What the run leaves a device, with the parts of the operand it did not send, is the body's end. -/
theorem after_elim :
    iprop(afterwards m ρ c ∗ semVal (bar c) 0
        ∗ (bigSep Finset.univ fun k : Fin 14 => owns (c : Thread nD τ) (xAt (!side c) (.inl k)) fullShare.right (on (xstg m ρ c) (there (!side c) (.inl k)))))
      ⊢ iprop(Φ₁ c ∗ owns (c : Thread nD τ) xM fullShare (xstg m ρ c) ∗ owns (c : Thread nD τ) oM fullShare (outAt m ρ c)) := by
  unfold afterwards Φ₁
  iintro ⟨⟨Hz, Hl, Ho, HoY, Hx, Hk⟩, Hb, HxY⟩
  isplitl [Hz Hl Hb]
  · isplitl [Hl]; · iapply (scratch_join c); iexact Hl
    isplitl [Hz] <;> iassumption
  isplitl [Hx Hk HxY]
  · iapply (x_halves c (xstg m ρ c)).2
    isplitl [Hk]; · iexact Hk
    iapply (join c xM (side c) fullShare.right (xstg m ρ c))
    isplitl [Hx]; · iexact Hx
    iexact HxY
  iapply (join c oM (side c) fullShare (outAt m ρ c))
  isplitl [Ho]
  · iapply (show (bigSep Finset.univ fun k : Chunk => owns (c : Thread nD τ) (oAt (side c) k) fullShare (on (sumOf m ρ c) (there (side c) k)))
        ⊢ (bigSep Finset.univ fun k : Chunk => owns (c : Thread nD τ) (oAt (side c) k) fullShare (on (outAt m ρ c) (there (side c) k)) : sProp 𝕄) from
      bigSep_mono fun k _ => Entails.of_eq (congrArg (owns (c : Thread nD τ) (oAt (side c) k) fullShare) (outAt_own m ρ c k).symm))
    iexact Ho
  iapply (show (bigSep Finset.univ fun k : Fin 14 => pay m ρ c (ry k))
      ⊢ (bigSep Finset.univ fun k : Fin 14 => owns (c : Thread nD τ) (oAt (!side c) (.inl k)) fullShare (on (outAt m ρ c) (there (!side c) (.inl k))) : sProp 𝕄) from
    bigSep_mono fun k _ => Entails.of_eq (congrArg (owns (c : Thread nD τ) (oAt (!side c) (.inl k)) fullShare) (outAt_other m ρ c k).symm))
  iexact HoY

/-! ## The body -/

/-- A family over a device's semaphores: the barrier's, and the copies'. -/
theorem bigSep_seat (Φ : Seat → sProp 𝕄) : bigSep Finset.univ Φ = iprop(Φ (.inl ()) ∗ bigSep Finset.univ fun a : Duct => Φ (.inr a)) := by
  rw [bigSep_univ_sum, Finset.univ_unique, bigSep_singleton]
  rfl

theorem cond_false (h : side c = false) : k0_cond1 c = 1#1 ∧ ¬ k0_cond2 c = 1#1 := by revert c; decide
theorem cond_true (h : side c = true) : ¬ k0_cond1 c = 1#1 ∧ k0_cond2 c = 1#1 := by revert c; decide

/-- After the barrier a device runs on its own side. -/
theorem exec_side (P : sProp 𝕄) {Q : PUnit → sProp 𝕄} :
    iprop(exec c (run c (side c)) (fun _ => P) ∗ (P -∗ Q ⟨⟩))
      ⊢ exec (F := F) c (if _h : k0_cond1 c = 1#1
          then run c false >>= fun _ => if _h : k0_cond2 c = 1#1 then run c true >>= fun _ => Prog.ret ⟨⟩ else Prog.ret ⟨⟩
          else if _h : k0_cond2 c = 1#1 then run c true >>= fun _ => Prog.ret ⟨⟩ else Prog.ret ⟨⟩) Q := by
  iintro ⟨H, HQ⟩
  rcases hs : side c with _ | _
  · rw [dif_pos (cond_false c hs).1, dif_neg (cond_false c hs).2]
    iapply (exec_seq c (run c false) (Prog.ret ⟨⟩) (P := P))
    isplitl [H]; · iexact H
    iintro HP
    iapply (exec_ret c)
    iapply HQ; iexact HP
  · rw [dif_neg (cond_true c hs).1, dif_pos (cond_true c hs).2]
    iapply (exec_seq c (run c true) (Prog.ret ⟨⟩) (P := P))
    isplitl [H]; · iexact H
    iintro HP
    iapply (exec_ret c)
    iapply HQ; iexact HP

/-- The body: from what a device holds at the kernel's start to its result. -/
theorem sound_body :
    iprop(common m ρ K ∗ (linear c ∗ creds c ∗ scratch c) ∗ owing c (O₀ c)
        ∗ owns (c : Thread nD τ) xM fullShare (xstg m ρ c) ∗ ∃ X, owns (c : Thread nD τ) oM fullShare X)
      ⊢ exec (F := F) c program
          fun _ => iprop((Φ₁ c ∗ owns (c : Thread nD τ) xM fullShare (xstg m ρ c) ∗ owns (c : Thread nD τ) oM fullShare (outAt m ρ c)) ∗ owing c 0) := by
  unfold program linear creds owing common O₀
  simp only [semSignalWord, semWaitWord, Prog.lift, Prog.bind_op, Prog.bind_ret, Prog.pure_eq_ret, wp_deviceId]
  rw [bigSep_seat]
  iintro ⟨⟨#HR, #Hl⟩, ⟨⟨⟨HaB, Ha⟩, HtX, HtY, Ht⟩, ⟨HcB, HcX, HcY⟩, Hs⟩, ⟨%W, HO⟩, Hx, %X, Ho⟩
  -- the buffers cut
  icases (x_halves c (xstg m ρ c)).1 $$ Hx with ⟨Hk, Hx⟩
  icases (cut c xM (side c) fullShare.right (xstg m ρ c)) $$ Hx with ⟨Hx, HxY⟩
  icases (cut c oM (side c) fullShare X) $$ Ho with ⟨Ho, HoY⟩
  ihave Hs := (scratch_cut c) $$ Hs
  -- the signals: the landing buffer goes across the first axis, the rows another device sums across the second
  iapply (Rounds.wp_signal 𝒱₀ ER (Rd m ρ) (c : Thread nD τ) none (dst := (acrossX c : Thread nD τ)) (κ := K (acrossX c, .inl ()))
      (d := false) (by rw [duties_bar]; exact Finset.mem_univ _) ((amount_bar m ρ (acrossX c) false).trans (by decide)) ()
      (O₁ c + tallyAt (bar (acrossY c)) () 1) rfl) $$ [HO HtX Hs]
  · isplitr; · iapply (records_inv m ρ K (acrossX c, .inl ())); iexact HR
    isplitl [HO]; · iexact HO
    isplitl [HtX]; · iexact HtX
    isplitl [Hs]
    · rw [payload_bar, if_neg (by decide)]; unfold payX; rw [acrossX_acrossX]; iexact Hs
    iapply (records_reached m ρ K (acrossX c, .inl ())); iexact HR
  iintro HO
  iapply (Rounds.wp_signal 𝒱₀ ER (Rd m ρ) (c : Thread nD τ) none (dst := (acrossY c : Thread nD τ)) (κ := K (acrossY c, .inl ()))
      (d := true) (by rw [duties_bar]; exact Finset.mem_univ _) ((amount_bar m ρ (acrossY c) true).trans (by decide)) ()
      (O₁ c) rfl) $$ [HO HtY HoY]
  · isplitr; · iapply (records_inv m ρ K (acrossY c, .inl ())); iexact HR
    isplitl [HO]; · iexact HO
    isplitl [HtY]; · iexact HtY
    isplitl [HoY]
    · rw [payload_bar, if_pos rfl]; unfold payY; rw [acrossY_acrossY, side_acrossY]
      iapply (show (bigSep Finset.univ fun k : Fin 14 => owns (c : Thread nD τ) (oAt (!side c) (.inl k)) fullShare (on X (there (!side c) (.inl k))))
          ⊢ (bigSep Finset.univ fun k : Fin 14 => iprop(∃ X, owns (c : Thread nD τ) (oAt (!side c) (.inl k)) fullShare X) : sProp 𝕄) from
        bigSep_mono fun k _ => owns_any c (oAt (!side c) (.inl k)) _)
      iexact HoY
    iapply (records_reached m ρ K (acrossY c, .inl ())); iexact HR
  iintro HO
  -- the wait for both neighbours
  iapply (Rounds.wp_wait_rest_token 𝒱₀ ER (Rd m ρ) (c : Thread nD τ) none (κ := K (c, .inl ()))
      (wpE_semWait_eq 𝒱₀ (c : Thread nD τ) none Set.univ) (Set.mem_univ _) () (O := O₁ c) (W := W) (R := 0) (m := 0) (T := ∅)
      (by rw [expect_bar]; decide)) $$ [HcB HO HaB]
  · isplitr; · iapply (records_inv m ρ K (c, .inl ())); iexact HR
    isplitl [HcB]; · iexact HcB
    isplitl [HO]; · iexact HO
    isplitr; · iapply (mayWait c (.reg barS) (Nat.le_of_eq (lv_bar c)) (above_O₁ c)); iexact Hl
    iexact HaB
  iintro ⟨HO, HaB, -, Hp⟩
  icases (Entails.of_eq (rest_bar m ρ c)) $$ Hp with ⟨HpX, HpY⟩
  imod (Rounds.cell_close ER (Rd m ρ) (Set.mem_univ (K (c, .inl ()))) (fun h => h) (R := 0 + 1) (duties_later m ρ (bar c))) $$ [HaB] with HzB
  · isplitr; · iapply (records_inv m ρ K (c, .inl ())); iexact HR
    iexact HaB
  ihave Ho := (show (bigSep Finset.univ fun k : Chunk => owns (c : Thread nD τ) (oAt (side c) k) fullShare (on X (there (side c) k)))
      ⊢ (bigSep Finset.univ fun k : Chunk => outAny c (side c) k : sProp 𝕄) from
    bigSep_mono fun k _ => owns_any c (oAt (side c) k) _) $$ Ho
  iapply (exec_side c (iprop(afterwards m ρ c ∗ owing c 0)))
  isplitr [HzB HxY]
  · iapply (exec_run m ρ K c)
    unfold common owing
    isplitr
    · isplitr; · iexact HR
      iexact Hl
    isplitr [HO]
    · iapply (before_intro m ρ c)
      isplitl [Ha]; · iexact Ha
      isplitl [Ht]; · iexact Ht
      isplitl [HcX]; · iexact HcX
      isplitl [HcY]; · iexact HcY
      isplitl [HpX]; · iexact HpX
      isplitl [HpY]; · iexact HpY
      isplitl [Hx]; · iexact Hx
      isplitl [Ho]; · iexact Ho
      iexact Hk
    iexists _; iexact HO
  unfold owing
  iintro ⟨Ha, HO⟩
  isplitr [HO]
  · iapply (after_elim m ρ c)
    isplitl [Ha]; · iexact Ha
    isplitl [HzB]; · iexact HzB
    iexact HxY
  iexact HO

/-! ## The launch's obligation -/

/-- At the kernel's start: the device's share of the protocol, and the landing buffer. -/
def Φ₀ : sProp 𝕄 := iprop(start m ρ c ∗ scratch c)

/-- What the launch is told: the arrays, what the two staging buffers hold after the one point, the body's start and
    end, and what is owed at each. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The body's start and end, in the launch's words. -/
def bodyPre : sProp 𝕄 :=
  iprop(Φ₀ m ρ c ∗ (dats m ρ 0 c).owesAt () t0_0.castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d)))
@[inherit_doc bodyPre] def bodyPost : sProp 𝕄 :=
  iprop(Φ₁ c ∗ (dats m ρ 0 c).owesAt () t0_0.succ
    ∗ owns (c : Thread nD τ) xM fullShare (xstg m ρ c) ∗ owns (c : Thread nD τ) oM fullShare (outAt m ρ c))

theorem before_x (d) : (dats m ρ 0 c).before (0 : Fin 2) t0_0 d = xstg m ρ c := by
  unfold Dat.before; rw [if_pos (fetch0_0 t0_0)]; rfl

theorem body_program : bodyPre m ρ c ⊢ exec (F := F) c program fun _ => bodyPost m ρ c := by
  unfold bodyPre bodyPost Φ₀ start ghost Dat.owesAt Pipeline.owesWithin
  rw [show (dats m ρ 0 c).owed t0_0.castSucc = O₀ c from rfl, show (dats m ρ 0 c).owed t0_0.succ = 0 from rfl]
  iintro ⟨⟨⟨⟨%K, #HR, Hg⟩, Hc, #Hl⟩, Hs⟩, ⟨%W, -, HO⟩, ⟨%d, Hx⟩, %d', Ho⟩
  rw [before_x]
  iapply (exec_frame c program)
  isplitl
  · iapply (sound_body m ρ K c)
    unfold common owing
    isplitr
    · isplitr; · iexact HR
      iexact Hl
    isplitl [Hg Hc Hs]
    · isplitl [Hg]; · iexact Hg
      isplitl [Hc] <;> iassumption
    isplitl [HO]; · iexists W; iexact HO
    isplitl [Hx]; · iexact Hx
    iexists _; iexact Ho
  unfold owing
  iintro ⟨⟨Hp, Hx, Ho⟩, %W', HO⟩
  isplitl [Hp]; · iexact Hp
  isplitl [HO]
  · iexists W'
    isplitr; · ipureintro; exact fun _ _ => Or.inl trivial
    iexact HO
  isplitl [Hx] <;> iassumption

set_option maxRecDepth 65536 in
/-- What the launch asks of the body. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  show bodyPre m ρ c ⊢ exec (F := F) c (cc0_body (F := F) xM (Memref.isWhole_whole _) oM (Memref.isWhole_whole _) rM (Memref.isWhole_whole _)
      cc0_scratch1 cc0_scratch2 cc0_scratch3 cc0_scratch4) fun _ => bodyPost m ρ c
  rw [cc0_body_eq_program]
  exact body_program m ρ c

end Cert.Exchange
-- ==== Proof.Launch.lean ====
/-
The launch: the protocol's tokens, semaphores and credits dealt to the four devices, and the run of the whole program.
-/
module

public import proofs.«01_k».proof.Proof.Body
public import proofs.«01_k».proof.Proof.Gen.KernelIdeal.Launch
public import Idealize.ShloMosaic.Lib.Pipeline.CollectiveSegs

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × Seat → ℕ)

/-! ## The protocol's tokens at launch -/

theorem ownSemFacts : Pipeline.OwnSemFacts cfg0.spec osem := by decide

theorem share_eq (c : Dev nD) (w : Fin cfg0.W) : (dats m ρ 0 c).share w = fullShare := by unfold Dat.share; split <;> rfl

theorem cell_injective {c c' : Dev nD} {a a' : Duct} (h : cell c a = cell c' a') : c = c' ∧ a = a' :=
  ⟨congrArg (fun g : GSem nD τ sig => g.1.1) h, ductSem_injective (SemLoc.dma.inj (congrArg Prod.snd h))⟩
theorem bar_ne_cell {c c' : Dev nD} {a : Duct} (h : bar c = cell c' a) : False := by cases congrArg Prod.snd h

theorem seat_injective : Function.Injective (seat : Dev nD × Seat → GSem nD τ sig) := by
  rintro ⟨c, ⟨⟩ | a⟩ ⟨c', ⟨⟩ | a'⟩ h
  · rw [show c = c' from congrArg (fun g : GSem nD τ sig => g.1.1) h]
  · exact (bar_ne_cell h).elim
  · exact (bar_ne_cell h.symm).elim
  · obtain ⟨rfl, rfl⟩ := cell_injective h; rfl
/-- All the protocol's semaphores. -/
def seats : Finset (GSem nD τ sig) := Finset.univ.map ⟨seat, seat_injective⟩

/-- A device's tokens: two at its barrier's semaphore, one at each of the copies'. -/
abbrev Tok : Type := Bool ⊕ Duct
instance tok_decidableEq : DecidableEq Tok := inferInstance
@[reducible] def tokAt (ct : Dev nD × Tok) : GSem nD τ sig × ℕ × Bool := match ct.2 with
  | .inl b => (bar ct.1, 0, b)
  | .inr a => (cell ct.1 a, 0, false)
theorem tokAt_injective : Function.Injective tokAt := by
  rintro ⟨c, b | a⟩ ⟨c', b' | a'⟩ h
  · obtain ⟨h1, h2⟩ := Prod.mk.inj h
    rw [show c = c' from congrArg (fun g : GSem nD τ sig => g.1.1) h1, (Prod.mk.inj h2).2]
  · exact (bar_ne_cell (congrArg Prod.fst h)).elim
  · exact (bar_ne_cell (congrArg Prod.fst h).symm).elim
  · obtain ⟨rfl, rfl⟩ := cell_injective (congrArg Prod.fst h); rfl
/-- All the protocol's tokens. -/
def toks : Finset (GSem nD τ sig × ℕ × Bool) := Finset.univ.map ⟨tokAt, tokAt_injective⟩

/-- The ghost state the launch begins with: the staging's and the protocol's. -/
def u₀ : UU := (initOf (Pipeline.cells cfgs cellOf_inj) (Pipeline.launchToks cfgs cellOf_inj), initOf seats toks)

/-- The tokens of device `c`'s own semaphores. -/
def ownToks (c : Dev nD) : sProp 𝕄 :=
  iprop((dutyTok ER (bar c) 0 false ∗ dutyTok ER (bar c) 0 true) ∗ bigSep Finset.univ fun a : Duct => dutyTok ER (cell c a) 0 false)
/-- The tokens of what device `c` pays. -/
def paidToks (c : Dev nD) : sProp 𝕄 :=
  iprop(dutyTok ER (bar (acrossX c)) 0 false ∗ dutyTok ER (bar (acrossY c)) 0 true ∗ sendToks c)

/-- What device `c` is dealt first, -/
def G (c : Dev nD) : sProp 𝕄 :=
  iprop((bigSep Finset.univ fun k : Seat => roundState ER (Rd m ρ) (seat (c, k)) 0)
    ∗ ((bigSep Finset.univ fun k : Seat => atPos ER (seat (c, k)) 0 ∅ 0) ∗ bigSep Finset.univ fun k : Seat => reached ER (seat (c, k)) 0) ∗ ownToks c)
/-- and what it has once all devices' semaphores are in the protocol. -/
def G' (c : Dev nD) : sProp 𝕄 := iprop(∃ K, ghost m ρ K c)

/-- A family over the protocol's semaphores, device by device. -/
theorem bigSep_seats (Φ : GSem nD τ sig → sProp 𝕄) :
    bigSep seats Φ = bigSep Finset.univ fun c : Dev nD => bigSep Finset.univ fun k : Seat => Φ (seat (c, k)) := by
  unfold seats; rw [bigSep_map, bigSep_univ_prod]; rfl
theorem bigSep_toks :
    bigSep toks (fun x => (dutyTok ER x.1 x.2.1 x.2.2 : sProp 𝕄)) = bigSep Finset.univ fun c : Dev nD => ownToks c := by
  unfold toks; rw [bigSep_map, bigSep_univ_prod]
  refine bigSep_congr fun c _ => ?_
  unfold ownToks
  rw [bigSep_univ_sum, bigSep_univ_eq_bigSepL (I := Bool) [false, true] (by decide) (by decide)]
  rfl

theorem fund : BI.own (ER (initOf seats toks)) ⊢ (|==> bigSep Finset.univ (G m ρ) : sProp 𝕄) := by
  iintro H
  imod (Rounds.fund ER (Rd m ρ) seats toks) $$ H with ⟨Hs, Hr, Ha, Ht⟩
  imodintro
  ihave Hs := (Entails.of_eq (bigSep_seats fun g => roundState ER (Rd m ρ) g 0)) $$ Hs
  ihave Ha := (Entails.of_eq (bigSep_seats fun g => atPos ER g 0 ∅ 0)) $$ Ha
  ihave Hr := (Entails.of_eq (bigSep_seats fun g => reached ER g 0)) $$ Hr
  ihave Ht := (Entails.of_eq bigSep_toks) $$ Ht
  unfold G
  simp only [bigSep_sep']
  isplitl [Hs]; · iexact Hs
  isplitl [Ha Hr]
  · isplitl [Ha] <;> iassumption
  iexact Ht

/-! ## The semaphores -/

/-- The barrier's semaphore is the launch's one unscoped semaphore; -/
theorem unscopedSems0_eq (c : Dev nD) : (unscopedSems0 c : sProp 𝕄) = semVal (bar c) 0 := by
  unfold unscopedSems0; rw [bigSep_eq_bigSepL_of_eq [SemLoc.reg barS] (by decide) (by decide)]; rfl
/-- the copies' are the kernel's own. -/
theorem ownSems0_eq (c : Dev nD) : (Pipeline.ownSems0 (Ix := Unit) (Name := ℕ) (U := UU) (Lvl := ℕ) (Val := Elt F) (τ := τ) osem c : sProp 𝕄)
    = bigSep Finset.univ fun a : Duct => semVal (cell c a) 0 := rfl

/-- One device's semaphores put in the protocol. -/
theorem seats_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Seat => iprop(∃ κ : ℕ, cellInv ER (Rd m ρ) κ (seat (c, k))))
          ∗ ((bigSep Finset.univ fun k : Seat => atPos ER (seat (c, k)) 0 ∅ 0) ∗ bigSep Finset.univ fun k : Seat => reached ER (seat (c, k)) 0) ∗ ownToks c) := by
  unfold G
  rw [ownSems0_eq, unscopedSems0_eq]
  iintro ⟨Ho, Hb, Hs, Ha, Ht⟩
  imod (show iprop((bigSep Finset.univ fun k : Seat => semVal (seat (c, k)) 0) ∗ bigSep Finset.univ fun k : Seat => roundState ER (Rd m ρ) (seat (c, k)) 0)
      ⊢ (|={Set.univ}=> bigSep Finset.univ fun k : Seat => iprop(∃ κ : ℕ, cellInv ER (Rd m ρ) κ (seat (c, k))) : sProp 𝕄) from by
        rw [← bigSep_sep']
        exact (bigSep_mono fun k _ => (Rounds.body_intro ER (Rd m ρ) (seat (c, k))).trans inv_alloc).trans (bigSep_fupd _ _)) $$ [Ho Hb Hs] with Hi
  · isplitr [Hs]
    · rw [bigSep_seat]
      isplitl [Hb] <;> iassumption
    iexact Hs
  imodintro
  isplitl [Hi]; · iexact Hi
  isplitl [Ha] <;> iassumption

/-- The tokens dealt: each goes to the device that pays with it. -/
theorem toks_dealt : (bigSep Finset.univ fun c : Dev nD => (ownToks c : sProp 𝕄)) ⊢ bigSep Finset.univ fun c : Dev nD => paidToks c := by
  unfold ownToks paidToks sendToks
  simp only [bigSep_duct, bigSep_sep']
  rw [bigSep_univ_equiv mirrorX (fun c : Dev nD => (dutyTok ER (bar c) 0 false : sProp 𝕄)),
    bigSep_univ_equiv mirrorY (fun c : Dev nD => (dutyTok ER (bar c) 0 true : sProp 𝕄)),
    bigSep_univ_equiv mirrorX (fun c : Dev nD => bigSep Finset.univ fun k => (dutyTok ER (cell c (rx k)) 0 false : sProp 𝕄)),
    bigSep_univ_equiv mirrorY (fun c : Dev nD => bigSep Finset.univ fun k => (dutyTok ER (cell c (ry k)) 0 false : sProp 𝕄))]
  iintro ⟨⟨HbX, HbY⟩, ⟨HsX, HrX⟩, HsY, HrY⟩
  isplitl [HbX]; · iexact HbX
  isplitl [HbY]; · iexact HbY
  isplitl [HsX HrX]
  · isplitl [HsX]; · iexact HsX
    iexact HrX
  isplitl [HsY]; · iexact HsY
  iexact HrY

theorem ghost_intro (K : Dev nD × Seat → ℕ) (c : Dev nD) :
    iprop(records m ρ K ∗ (bigSep Finset.univ fun k : Seat => atPos ER (seat (c, k)) 0 ∅ 0) ∗ paidToks c) ⊢ G' m ρ c := by
  unfold G' ghost linear paidToks
  iintro ⟨#HR, Ha, Ht⟩
  iexists K
  isplitr; · iexact HR
  isplitl [Ha] <;> iassumption

/-- Once all devices' semaphores are in the protocol, each device's share. -/
theorem regroup :
    (bigSep Finset.univ fun c : Dev nD => iprop((bigSep Finset.univ fun k : Seat => iprop(∃ κ : ℕ, cellInv ER (Rd m ρ) κ (seat (c, k))))
          ∗ ((bigSep Finset.univ fun k : Seat => atPos ER (seat (c, k)) 0 ∅ 0) ∗ bigSep Finset.univ fun k : Seat => reached ER (seat (c, k)) 0) ∗ ownToks c) : sProp 𝕄)
      ⊢ bigSep Finset.univ (G' m ρ) := by
  simp only [bigSep_sep']
  rw [← bigSep_univ_prod (fun ck : Dev nD × Seat => iprop(∃ κ : ℕ, cellInv ER (Rd m ρ) κ (seat ck))),
    ← bigSep_univ_prod (fun ck : Dev nD × Seat => (reached ER (seat ck) 0 : sProp 𝕄))]
  iintro ⟨HI, ⟨Ha, #Hr⟩, Ht⟩
  icases (BI.bigSep_exists_pi Finset.univ (fun (ck : Dev nD × Seat) (κ : ℕ) => (cellInv ER (Rd m ρ) κ (seat ck) : sProp 𝕄))) $$ HI with ⟨%K, #HI⟩
  ihave Ht := toks_dealt $$ Ht
  iapply (Transfers.bigSep_mono_pers Finset.univ (records m ρ K) (fun c : Dev nD => iprop((bigSep Finset.univ fun k : Seat => atPos ER (seat (c, k)) 0 ∅ 0) ∗ paidToks c))
    (G' m ρ) fun c _ => ghost_intro m ρ K c)
  isplitr
  · unfold records; isplitr; · iexact HI
    iexact Hr
  rw [bigSep_sep']
  isplitl [Ha] <;> iassumption

/-- All devices' semaphores put in the protocol, and the tokens dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => seats_alloc m ρ c).trans (bigSep_fupd _ _)).trans (BI.fupd_mono (regroup m ρ))

/-! ## The credits -/

theorem creds_intro (c : Dev nD) : (Pipeline.launchCred O₀ c : sProp 𝕄) ⊢ creds c := by
  have hX (d : Dev nD) : dueX d 0 = ∑ k : Chunk, tallyAt (cell (acrossX d) (rx k)) () (units (rx k)) := by
    unfold dueX after; rw [Finset.filter_true_of_mem fun k _ => Nat.zero_le _]
  have hY (d : Dev nD) : dueY d 0 = ∑ k : Fin 14, tallyAt (cell (acrossY d) (ry k)) () (units (ry k)) := by
    unfold dueY after; rw [Finset.filter_true_of_mem fun k _ => Nat.zero_le _]
  unfold creds
  rw [show (O₀ : Dev nD → CellTallies nD τ sig Unit) = fun d => ((∑ k : Chunk, tallyAt (cell (acrossX d) (rx k)) () (units (rx k)))
      + (∑ k : Fin 14, tallyAt (cell (acrossY d) (ry k)) () (units (ry k)))) + tallyAt (bar (acrossY d)) () 1 + tallyAt (bar (acrossX d)) () 1 from
    funext fun d => by unfold O₀ O₁; rw [hX, hY]]
  rw [Pipeline.launchCred_add, Pipeline.launchCred_add, Pipeline.launchCred_add, Pipeline.launchCred_sum, Pipeline.launchCred_sum]
  iintro ⟨⟨⟨HX, HY⟩, HbY⟩, HbX⟩
  ihave HbX := (Pipeline.launchCred_tallyAt (.reg barS) acrossX acrossX acrossX_acrossX acrossX_acrossX () 1 c) $$ HbX
  ihave HbY := (Pipeline.launchCred_tallyAt (.reg barS) acrossY acrossY acrossY_acrossY acrossY_acrossY () 1 c) $$ HbY
  isplitl [HbX HbY]
  · rw [show (tallyAt (bar c) () 2 : CellTallies nD τ sig Unit) = tallyAt (bar c) () 1 + tallyAt (bar c) () 1 from (tallyAt_add _ _ 1 1).symm]
    iapply (cred_add _ _).2
    isplitl [HbX] <;> iassumption
  isplitl [HX]
  · iapply (show _ ⊢ (_ : sProp 𝕄) from bigSep_mono fun k _ =>
      Pipeline.launchCred_tallyAt (osem (rx k)) acrossX acrossX acrossX_acrossX acrossX_acrossX () (units (rx k)) c)
    iexact HX
  · iapply (show _ ⊢ (_ : sProp 𝕄) from bigSep_mono fun k _ =>
      Pipeline.launchCred_tallyAt (osem (ry k)) acrossY acrossY acrossY_acrossY acrossY_acrossY () (units (ry k)) c)
    iexact HY

/-! ## The kernel's start and end -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hl, Hc, -, HG⟩
  imodintro
  isplitl
  · unfold start G'
    isplitl [HG]; · iexact HG
    isplitl [Hc]; · iapply (creds_intro c); iexact Hc
    iexact Hl
  iempintro

theorem Φ₀_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem Φ₁_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hz, Hb⟩
  isplitl [Hb]; · iexact Hb
  isplitl [Hz] <;> iassumption

/-- The staging's waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait c _ (Nat.le_of_eq (lv_stage c _ (by fin_cases w <;> fin_cases s <;> decide))) (by
      rcases t with ⟨_ | _, ht⟩
      · exact above_O₀ c
      · exact Above.zero 0)

/-! ## The run -/

/-- What device `c`'s array `w` holds at the end. -/
def finalA (c : Dev nD) (w : Fin cfg0.W) : Buf (Elt F) ((cfg0.win w).arr.view.loc (c : Thread nD τ)) := (dats m ρ 0 c).arrAt w cfg0.N

/-- Every device's two arrays hold what they should. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every semaphore at zero and whatever the float values are, the four devices' run of the program
    ends, and at its end each device's arrays hold what they should and every semaphore is at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      icases (ownU_pair _ _) $$ Hu with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := Φ₀_intro m ρ) (hout := Φ₁_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand is as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange
-- ==== Proof.Value.lean ====
/-
What the run leaves in the result, at the real numbers: when each device holds the block its place along the mesh's first
axis names, every device's result is the sum of the two halves of the reference's array, which is the reference's value.
-/
module

public import proofs.«01_k».proof.Proof.Launch
public import proofs.«01_k».proof.Proof.Gen.ReferenceIdeal.Run
public import Idealize.ShloMosaic.Lib.Pointwise.Reduce
public import Idealize.ShloMosaic.Lib.Layout

@[expose] public section

noncomputable section

namespace Cert.Exchange

open Idealize.ShloMosaic Idealize.ShloMosaic.TcCoe
open Idealize.SL.Sem
open Cert.KernelIdeal Cert.KernelIdeal.Gen

variable {F : FTy → Type} [FloatOps F]

variable (m : (ℓ : Loc nD τ sig) → Buf (Elt F) ℓ) (ρ : Dev nD → PrngReg)

/-! ## The result array after the run -/

/-- Each window's one block is its whole array. -/
theorem whole_x : (fun a => (win0_0.index (0 : Fin 1)) a * main_arg0.ty.shape.size a) = fun _ => 0 :=
  funext fun a => by fin_cases a <;> decide
@[inherit_doc whole_x] theorem whole_y : (fun a => (win0_1.index (0 : Fin 1)) a * main_v1.ty.shape.size a) = fun _ => 0 :=
  funext fun a => by fin_cases a <;> decide

/-- A device's block of the argument is its whole argument buffer. -/
theorem xstg_eq (c : Dev nD) : xstg m ρ c = m ((c : Thread nD τ).loc main_arg0) :=
  Memref.read_access_unit_zero (Elt F) main_arg0 whole_x (fun a => by fin_cases a <;> decide) _

/-- After the run the result array holds what the body stored. -/
theorem finalA_y (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1 whole_y (fun a => by fin_cases a <;> decide) _).symm.trans h

/-! ## The sum of the halves -/

/-- The sum of the upper and the lower half of an array of 1024 rows. -/
def halves (X : FVec Ideal ⟨2, ![1024, 512]⟩ .f32) : FVec Ideal (Rows 512) .f32 := fun j =>
  (X (ix2 ⟨(j 0).val, (j 0).isLt.trans (by decide)⟩ (j 1)) : EReal)
    + X (ix2 ⟨512 + (j 0).val, Nat.add_lt_add_left (j 0).isLt 512⟩ (j 1))

/-- The reference adds the two halves. -/
theorem reference_halves (X : FVec Ideal ⟨2, ![1024, 512]⟩ .f32)
    (hc : (⟨2, ![1024, 512]⟩ : Shape).ShapeCasts ⟨3, ![2, 512, 512]⟩)
    (hr : (⟨3, ![2, 512, 512]⟩ : Shape).ReducesTo [0] ⟨2, ![512, 512]⟩) {u : Shape} (hu : 0 < u.numel) :
    Host.reduceAdd (shapeCast _ X hc) (constant (F := Ideal) u .f32 0x00000000#32) hr hu = halves X := by
  funext j
  have e : ∀ k : Fin 2, ∀ r : Fin 1024, r.val = k.val * 512 + (j 0).val →
      shapeCast ⟨3, ![2, 512, 512]⟩ X hc (ix3 k (j 0) (j 1)) = X (ix2 r (j 1)) := fun k r h =>
    shapeCast_apply X hc _ _ (by
      rw [Shape.rowMajor_val_two, Shape.rowMajor_val_three]
      show r.val * 512 + (j 1).val = (k.val * 512 + (j 0).val) * 512 + (j 1).val
      rw [h])
  rw [Host.reduceAdd_apply, Ideal.hostReduceAdd_def, Ideal.hostReduceAdd_r3_a0, Fin.sum_univ_two]
  show Ideal.ofBits .f32 0x00000000#32 + ((shapeCast _ X hc (ix3 0 (j 0) (j 1)) : EReal) + shapeCast _ X hc (ix3 1 (j 0) (j 1))) = halves X j
  rw [Ideal.ofBits_zero_f32, zero_add, e 0 ⟨(j 0).val, (j 0).isLt.trans (by decide)⟩ (by simp),
    e 1 ⟨512 + (j 0).val, Nat.add_lt_add_left (j 0).isLt 512⟩ (by simp)]
  rfl

/-! ## The kernel's result -/

/-- The block of an array that a device holds. -/
abbrev blockOf (X : FVec Ideal ⟨2, ![1024, 512]⟩ .f32) (c : Dev nD) : FVec Ideal (Rows 512) .f32 :=
  Layout.blockN ⟨2, ![512, 512]⟩ ⟨2, ![1024, 512]⟩ (Layout.meshBlock [2, 2] ![[0], []] c) X

theorem blockOf_apply (X : FVec Ideal ⟨2, ![1024, 512]⟩ .f32) (c : Dev nD) (j : (Rows 512).Idx) (r : Fin 1024)
    (h : r.val = c.val / 2 * 512 + (j 0).val) : blockOf X c j = X (ix2 r (j 1)) := by
  refine congrArg X (funext fun a => Fin.ext ?_)
  have hc : Layout.meshLin [2, 2] c.val [0] = c.val / 2 := by clear h; revert c; decide
  fin_cases a
  · show Layout.meshLin [2, 2] c.val [0] * 512 + (j 0).val = r.val
    rw [hc, h]
  · show 0 * 512 + (j 1).val = (j 1).val
    omega

/-- Whichever of the two blocks a device holds, with the one across the first axis it makes the sum of the halves. -/
theorem blockOf_add (X : FVec Ideal ⟨2, ![1024, 512]⟩ .f32) (c : Dev nD) (j : (Rows 512).Idx) :
    (blockOf X c j : EReal) + blockOf X (acrossX c) j = halves X j := by
  have hj : (j 0).val < 512 := (j 0).isLt
  have hcases : (c.val / 2 = 0 ∧ (acrossX c).val / 2 = 1) ∨ (c.val / 2 = 1 ∧ (acrossX c).val / 2 = 0) := by revert c; decide
  have lo : ∀ d : Dev nD, d.val / 2 = 0 → blockOf X d j = X (ix2 ⟨(j 0).val, hj.trans (by decide)⟩ (j 1)) := fun d h =>
    blockOf_apply X d j _ (by rw [h]; simp)
  have hi : ∀ d : Dev nD, d.val / 2 = 1 → blockOf X d j = X (ix2 ⟨512 + (j 0).val, Nat.add_lt_add_left hj 512⟩ (j 1)) := fun d h =>
    blockOf_apply X d j _ (by rw [h])
  rcases hcases with ⟨h, h'⟩ | ⟨h, h'⟩
  · rw [lo _ h, hi _ h', halves]
  · rw [hi _ h, lo _ h']; exact add_comm (_ : EReal) _

/-- From blocks of one array, the body stores on every device the sum of its halves. -/
theorem outAt_halves (m : (ℓ : Loc nD τ sig) → Buf (Elt Ideal) ℓ) (X : FVec Ideal ⟨2, ![1024, 512]⟩ .f32)
    (h : ∀ c : Dev nD, m ((c : Thread nD τ).loc main_arg0) = blockOf X c) (c : Dev nD) : outAt m ρ c = halves X := by
  have hs : ∀ d, sumOf m ρ d = halves X := fun d => funext fun j => by
    unfold sumOf
    rw [xstg_eq, xstg_eq, h, h]
    exact blockOf_add X d j
  funext j
  unfold outAt
  rw [hs, hs, ite_self]

end Cert.Exchange

end
-- ==== Proof.Same.lean ====
/-
The program at the machine's floats and the one at the real numbers have the same text, so they have the same body table.
-/
module

public import proofs.«01_k».proof.Kernel
public import proofs.«01_k».proof.KernelIdeal

@[expose] public section

set_option maxRecDepth 10000

namespace Cert.Exchange

open Idealize.ShloMosaic

variable {F : FTy → Type} [FloatOps F] [Cert.Kernel.Facts] [Cert.KernelIdeal.Facts]

/-- The two kernels' bodies agree, label by label. -/
theorem defs₀_same : Cert.Kernel.defs₀ (F := F) = Cert.KernelIdeal.defs₀ (F := F) := by
  refine congrArg Idealize.ShloMosaic.Defs.onTc ?_
  funext l a
  match l, a with
  | 0, (t, s) => exact rfl
/-- So the two body tables agree. -/
theorem defs_same : Cert.Kernel.defs (F := F) = Cert.KernelIdeal.defs (F := F) := by
  unfold Cert.Kernel.defs Cert.KernelIdeal.defs
  rw [defs₀_same]
  rfl

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel leaves its argument as it was and every counter at zero, whatever the floats are. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem (c.tc.loc Cert.KernelIdeal.main_arg0) = m (c.tc.loc Cert.KernelIdeal.main_arg0))
        ∧ r.2.sem = fun _ => 0 :=
  (θ_run Cert.KernelIdeal.defs _ _).mono (fun _ h => ⟨fun c => (h.1 c 0).trans (Cert.Exchange.finalA_x m ρ c), h.2⟩)
    (Cert.Exchange.run_main (F := F) m ρ)

/-- At the machine's floats: the two programs have one body table. -/
theorem frame_kernel : Cert.quiescent_Kernel := fun m ρ _ => by
  have h := frame (F := Bits) m ρ
  rw [← Cert.Exchange.defs_same] at h
  exact h

/-- At the real numbers. -/
theorem frame_ideal : Cert.quiescent_KernelIdeal := fun m ρ _ => frame (F := Ideal) m ρ

/-- The reference leaves its argument as it was; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result and the reference's are the sum of the halves of the reference's array. -/
theorem algebraic : Cert.algebraic_KernelIdeal_ReferenceIdeal := fun m ρ m' ρ' _ hm =>
  ⟨Cert.Exchange.halves (m' (((0 : Dev Cert.ReferenceIdeal.nD).tc).loc Cert.ReferenceIdeal.main_arg0)),
    (θ_run Cert.KernelIdeal.defs _ _).mono
      (fun _ h c => ⟨(h.1 c 1).trans ((Cert.Exchange.finalA_y m ρ c).trans (Cert.Exchange.outAt_halves ρ m _ hm c)),
        (h.1 c 0).trans (Cert.Exchange.finalA_x m ρ c)⟩)
      (Cert.Exchange.run_main (F := Ideal) m ρ),
    (θ_run Cert.ReferenceIdeal.defs _ _).mono
      (fun _ h => ⟨(h 0).1.trans (Cert.Exchange.reference_halves _ _ _ _), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
